-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3072x1536 : Shape := ⟨3, ![2, 3072, 1536]⟩
abbrev S2x3072x12 : Shape := ⟨3, ![2, 3072, 12]⟩
abbrev S2x3072x4096 : Shape := ⟨3, ![2, 3072, 4096]⟩
abbrev S2x3072x32 : Shape := ⟨3, ![2, 3072, 32]⟩
abbrev S1536x4096 : Shape := ⟨2, ![1536, 4096]⟩
abbrev S1536x32 : Shape := ⟨2, ![1536, 32]⟩
abbrev S_ : Shape := ⟨0, ![]⟩
abbrev S6144x1536 : Shape := ⟨2, ![6144, 1536]⟩
abbrev S6144x4096 : Shape := ⟨2, ![6144, 4096]⟩
abbrev S6144x12 : Shape := ⟨2, ![6144, 12]⟩
abbrev S6144x32 : Shape := ⟨2, ![6144, 32]⟩
abbrev S1x1 : Shape := ⟨2, ![1, 1]⟩
abbrev S6144x256 : Shape := ⟨2, ![6144, 256]⟩
abbrev S1536x256 : Shape := ⟨2, ![1536, 256]⟩
abbrev S24x1536x256 : Shape := ⟨3, ![24, 1536, 256]⟩
abbrev S256x12 : Shape := ⟨2, ![256, 12]⟩
abbrev S256x116 : Shape := ⟨2, ![256, 116]⟩
abbrev S256x128 : Shape := ⟨2, ![256, 128]⟩
abbrev S128x256 : Shape := ⟨2, ![128, 256]⟩
abbrev S1x256 : Shape := ⟨2, ![1, 256]⟩
abbrev S1x128x256 : Shape := ⟨3, ![1, 128, 256]⟩
abbrev S256x32 : Shape := ⟨2, ![256, 32]⟩
abbrev S256x96 : Shape := ⟨2, ![256, 96]⟩
abbrev S256x128x1 : Shape := ⟨3, ![256, 128, 1]⟩
abbrev S1x1536x256 : Shape := ⟨3, ![1, 1536, 256]⟩
abbrev S256x256 : Shape := ⟨2, ![256, 256]⟩
abbrev S8x128 : Shape := ⟨2, ![8, 128]⟩
abbrev S1x128 : Shape := ⟨2, ![1, 128]⟩
abbrev S64x32 : Shape := ⟨2, ![64, 32]⟩
abbrev S64x96 : Shape := ⟨2, ![64, 96]⟩
abbrev S64x128 : Shape := ⟨2, ![64, 128]⟩
abbrev S64x128x1 : Shape := ⟨3, ![64, 128, 1]⟩
abbrev S64 : Shape := ⟨1, ![64]⟩
abbrev S64x1 : Shape := ⟨2, ![64, 1]⟩

abbrev nBuf : Space → Nat
  | .hbm => 21
  | .vmem => 26
  | .smem => 1
  | _ => 0

abbrev bufTy : (tb : Table) → Fin (tcTables nBuf tb) → BufTy
  | .hbm, ⟨0, _⟩ => ⟨S2x3072x1536, .fp8e4m3⟩
  | .hbm, ⟨1, _⟩ => ⟨S2x3072x12, .f32⟩
  | .hbm, ⟨2, _⟩ => ⟨S2x3072x4096, .fp8e5m2⟩
  | .hbm, ⟨3, _⟩ => ⟨S2x3072x32, .f32⟩
  | .hbm, ⟨4, _⟩ => ⟨S1536x4096, .bf16⟩
  | .hbm, ⟨5, _⟩ => ⟨S1536x4096, .i8⟩
  | .hbm, ⟨6, _⟩ => ⟨S1536x32, .f32⟩
  | .hbm, ⟨7, _⟩ => ⟨S1536x4096, .i8⟩
  | .hbm, ⟨8, _⟩ => ⟨S1536x32, .f32⟩
  | .hbm, ⟨9, _⟩ => ⟨S_, .i32⟩
  | .hbm, ⟨10, _⟩ => ⟨S6144x1536, .fp8e4m3⟩
  | .hbm, ⟨11, _⟩ => ⟨S6144x4096, .fp8e5m2⟩
  | .hbm, ⟨12, _⟩ => ⟨S6144x12, .f32⟩
  | .hbm, ⟨13, _⟩ => ⟨S6144x32, .f32⟩
  | .hbm, ⟨14, _⟩ => ⟨S1x1, .i32⟩
  | .hbm, ⟨15, _⟩ => ⟨S1536x4096, .bf16⟩
  | .hbm, ⟨16, _⟩ => ⟨S1536x4096, .f32⟩
  | .hbm, ⟨17, _⟩ => ⟨S1536x4096, .i8⟩
  | .hbm, ⟨18, _⟩ => ⟨S1536x32, .f32⟩
  | .hbm, ⟨19, _⟩ => ⟨S1536x4096, .i8⟩
  | .hbm, ⟨20, _⟩ => ⟨S1536x32, .f32⟩
  | .local _ .vmem, ⟨0, _⟩ => ⟨S6144x1536, .fp8e4m3⟩
  | .local _ .vmem, ⟨1, _⟩ => ⟨S6144x12, .f32⟩
  | .local _ .vmem, ⟨2, _⟩ => ⟨S6144x256, .fp8e5m2⟩
  | .local _ .vmem, ⟨3, _⟩ => ⟨S6144x256, .fp8e5m2⟩
  | .local _ .vmem, ⟨4, _⟩ => ⟨S6144x32, .f32⟩
  | .local _ .vmem, ⟨5, _⟩ => ⟨S1536x256, .bf16⟩
  | .local _ .vmem, ⟨6, _⟩ => ⟨S1536x256, .bf16⟩
  | .local _ .vmem, ⟨7, _⟩ => ⟨S1536x256, .i8⟩
  | .local _ .vmem, ⟨8, _⟩ => ⟨S1536x256, .i8⟩
  | .local _ .vmem, ⟨9, _⟩ => ⟨S1536x32, .f32⟩
  | .local _ .vmem, ⟨10, _⟩ => ⟨S1536x256, .i8⟩
  | .local _ .vmem, ⟨11, _⟩ => ⟨S1536x256, .i8⟩
  | .local _ .vmem, ⟨12, _⟩ => ⟨S1536x32, .f32⟩
  | .local _ .vmem, ⟨13, _⟩ => ⟨S1536x256, .bf16⟩
  | .local _ .vmem, ⟨14, _⟩ => ⟨S1536x256, .bf16⟩
  | .local _ .vmem, ⟨15, _⟩ => ⟨S1536x256, .f32⟩
  | .local _ .vmem, ⟨16, _⟩ => ⟨S1536x256, .f32⟩
  | .local _ .vmem, ⟨17, _⟩ => ⟨S1536x256, .i8⟩
  | .local _ .vmem, ⟨18, _⟩ => ⟨S1536x256, .i8⟩
  | .local _ .vmem, ⟨19, _⟩ => ⟨S1536x32, .f32⟩
  | .local _ .vmem, ⟨20, _⟩ => ⟨S1536x256, .i8⟩
  | .local _ .vmem, ⟨21, _⟩ => ⟨S1536x256, .i8⟩
  | .local _ .vmem, ⟨22, _⟩ => ⟨S1536x32, .f32⟩
  | .local _ .vmem, ⟨23, _⟩ => ⟨S24x1536x256, .bf16⟩
  | .local _ .vmem, ⟨24, _⟩ => ⟨S6144x256, .bf16⟩
  | .local _ .vmem, ⟨25, _⟩ => ⟨S1536x256, .f32⟩
  | .local _ .smem, ⟨0, _⟩ => ⟨S1x1, .i32⟩
  | _, _ => ⟨S2x3072x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_18 : BitVec 32 := 0#32
  let c24_i32_19 : BitVec 32 := 24#32
  let v27 : BitVec 32 := Scalar.addi c0_i32_18 c24_i32_19
  let c1_i32_20 : BitVec 32 := 1#32
  ⟨c0_i32_18, v27, c1_i32_20⟩
def k0_off1 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32 : BitVec 32 := 256#32
  let v28 : BitVec 32 := Scalar.muli arg20 c256_i32
  let v29 : Index := Scalar.indexCast v28
  let c0_22 : Index := 0#32
  ![v29.toNat, 0]
def k0_off2 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_24 : BitVec 32 := 256#32
  let v35 : BitVec 32 := Scalar.muli arg20 c256_i32_24
  let v36 : Index := Scalar.indexCast v35
  let c0_25 : Index := 0#32
  ![v36.toNat, 0]
def k0_off3 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v45 : Index := Scalar.indexCast arg20
  let c0_26 : Index := 0#32
  let c0_27 : Index := 0#32
  ![v45.toNat, 0, 0]
def k0_off4 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_28 : BitVec 32 := 256#32
  let v49 : BitVec 32 := Scalar.muli arg20 c256_i32_28
  let v50 : Index := Scalar.indexCast v49
  let c128 : Index := 128#32
  ![v50.toNat, 128]
def k0_off5 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v59 : Index := Scalar.indexCast arg20
  let c128_29 : Index := 128#32
  let c0_30 : Index := 0#32
  ![v59.toNat, 128, 0]
def k0_off6 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_31 : BitVec 32 := 256#32
  let v63 : BitVec 32 := Scalar.muli arg20 c256_i32_31
  let v64 : Index := Scalar.indexCast v63
  let c256 : Index := 256#32
  ![v64.toNat, 256]
def k0_off7 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v73 : Index := Scalar.indexCast arg20
  let c256_32 : Index := 256#32
  let c0_33 : Index := 0#32
  ![v73.toNat, 256, 0]
def k0_off8 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_34 : BitVec 32 := 256#32
  let v77 : BitVec 32 := Scalar.muli arg20 c256_i32_34
  let v78 : Index := Scalar.indexCast v77
  let c384 : Index := 384#32
  ![v78.toNat, 384]
def k0_off9 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v87 : Index := Scalar.indexCast arg20
  let c384_35 : Index := 384#32
  let c0_36 : Index := 0#32
  ![v87.toNat, 384, 0]
def k0_off10 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_37 : BitVec 32 := 256#32
  let v91 : BitVec 32 := Scalar.muli arg20 c256_i32_37
  let v92 : Index := Scalar.indexCast v91
  let c512 : Index := 512#32
  ![v92.toNat, 512]
def k0_off11 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v101 : Index := Scalar.indexCast arg20
  let c512_38 : Index := 512#32
  let c0_39 : Index := 0#32
  ![v101.toNat, 512, 0]
def k0_off12 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_40 : BitVec 32 := 256#32
  let v105 : BitVec 32 := Scalar.muli arg20 c256_i32_40
  let v106 : Index := Scalar.indexCast v105
  let c640 : Index := 640#32
  ![v106.toNat, 640]
def k0_off13 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v115 : Index := Scalar.indexCast arg20
  let c640_41 : Index := 640#32
  let c0_42 : Index := 0#32
  ![v115.toNat, 640, 0]
def k0_off14 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_43 : BitVec 32 := 256#32
  let v119 : BitVec 32 := Scalar.muli arg20 c256_i32_43
  let v120 : Index := Scalar.indexCast v119
  let c768 : Index := 768#32
  ![v120.toNat, 768]
def k0_off15 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v129 : Index := Scalar.indexCast arg20
  let c768_44 : Index := 768#32
  let c0_45 : Index := 0#32
  ![v129.toNat, 768, 0]
def k0_off16 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_46 : BitVec 32 := 256#32
  let v133 : BitVec 32 := Scalar.muli arg20 c256_i32_46
  let v134 : Index := Scalar.indexCast v133
  let c896 : Index := 896#32
  ![v134.toNat, 896]
def k0_off17 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v143 : Index := Scalar.indexCast arg20
  let c896_47 : Index := 896#32
  let c0_48 : Index := 0#32
  ![v143.toNat, 896, 0]
def k0_off18 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_49 : BitVec 32 := 256#32
  let v147 : BitVec 32 := Scalar.muli arg20 c256_i32_49
  let v148 : Index := Scalar.indexCast v147
  let c1024 : Index := 1024#32
  ![v148.toNat, 1024]
def k0_off19 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v157 : Index := Scalar.indexCast arg20
  let c1024_50 : Index := 1024#32
  let c0_51 : Index := 0#32
  ![v157.toNat, 1024, 0]
def k0_off20 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_52 : BitVec 32 := 256#32
  let v161 : BitVec 32 := Scalar.muli arg20 c256_i32_52
  let v162 : Index := Scalar.indexCast v161
  let c1152 : Index := 1152#32
  ![v162.toNat, 1152]
def k0_off21 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v171 : Index := Scalar.indexCast arg20
  let c1152_53 : Index := 1152#32
  let c0_54 : Index := 0#32
  ![v171.toNat, 1152, 0]
def k0_off22 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_55 : BitVec 32 := 256#32
  let v175 : BitVec 32 := Scalar.muli arg20 c256_i32_55
  let v176 : Index := Scalar.indexCast v175
  let c1280 : Index := 1280#32
  ![v176.toNat, 1280]
def k0_off23 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v185 : Index := Scalar.indexCast arg20
  let c1280_56 : Index := 1280#32
  let c0_57 : Index := 0#32
  ![v185.toNat, 1280, 0]
def k0_off24 (k0_t1 : Fin k0_t1_loop.trips) : Fin 2 → Nat :=
  let c0_i32_18 : BitVec 32 := 0#32
  let c1_i32_20 : BitVec 32 := 1#32
  let arg20 : BitVec 32 := Scf.iv c0_i32_18 c1_i32_20 k0_t1
  let c256_i32_58 : BitVec 32 := 256#32
  let v189 : BitVec 32 := Scalar.muli arg20 c256_i32_58
  let v190 : Index := Scalar.indexCast v189
  let c1408 : Index := 1408#32
  ![v190.toNat, 1408]
def k0_off25 (k0_t1 : Fin k0_t1_loop.trips) : Fin 3 → Nat :=
  let c0_i32_18 : BitVec 32 := 0#32
  let c1_i32_20 : BitVec 32 := 1#32
  let arg20 : BitVec 32 := Scf.iv c0_i32_18 c1_i32_20 k0_t1
  let v199 : Index := Scalar.indexCast arg20
  let c1408_59 : Index := 1408#32
  let c0_60 : Index := 0#32
  ![v199.toNat, 1408, 0]
@[reducible] def k0_t2_loop : Scf.Loop 32 :=
  let c0_i32_1 : BitVec 32 := 0#32
  let c24_i32 : BitVec 32 := 24#32
  let v3 : BitVec 32 := Scalar.addi c0_i32_1 c24_i32
  let c1_i32 : BitVec 32 := 1#32
  ⟨c0_i32_1, v3, c1_i32⟩
def k0_off26 (k0_t2 : Fin k0_t2_loop.trips) : Fin 2 → Nat :=
  let c0_i32_1 : BitVec 32 := 0#32
  let c1_i32 : BitVec 32 := 1#32
  let arg20 : BitVec 32 := Scf.iv c0_i32_1 c1_i32 k0_t2
  let c256_i32 : BitVec 32 := 256#32
  let v27 : BitVec 32 := Scalar.muli arg20 c256_i32
  let v28 : Index := Scalar.indexCast v27
  let c0_18 : Index := 0#32
  ![v28.toNat, 0]
def k0_off27 (k0_t2 : Fin k0_t2_loop.trips) : Fin 2 → Nat :=
  let c0_i32_1 : BitVec 32 := 0#32
  let c1_i32 : BitVec 32 := 1#32
  let arg20 : BitVec 32 := Scf.iv c0_i32_1 c1_i32 k0_t2
  let c256_i32 : BitVec 32 := 256#32
  let v27 : BitVec 32 := Scalar.muli arg20 c256_i32
  let v45 : Index := Scalar.indexCast v27
  let c0_22 : Index := 0#32
  ![v45.toNat, 0]
def k0_off28 (k0_t2 : Fin k0_t2_loop.trips) : Fin 2 → Nat :=
  let c0_i32_1 : BitVec 32 := 0#32
  let c1_i32 : BitVec 32 := 1#32
  let arg20 : BitVec 32 := Scf.iv c0_i32_1 c1_i32 k0_t2
  let c256_i32 : BitVec 32 := 256#32
  let v27 : BitVec 32 := Scalar.muli arg20 c256_i32
  let v66 : Index := Scalar.indexCast v27
  let c128 : Index := 128#32
  ![v66.toNat, 128]
@[reducible] def k0_t3_loop : Scf.Loop 32 :=
  let c0_i32_4 : BitVec 32 := 0#32
  let c24_i32_5 : BitVec 32 := 24#32
  let v8 : BitVec 32 := Scalar.addi c0_i32_4 c24_i32_5
  let c1_i32_6 : BitVec 32 := 1#32
  ⟨c0_i32_4, v8, c1_i32_6⟩
def k0_off29 (k0_t3 : Fin k0_t3_loop.trips) : Fin 3 → Nat :=
  let c0_i32_4 : BitVec 32 := 0#32
  let c1_i32_6 : BitVec 32 := 1#32
  let arg20 : BitVec 32 := Scf.iv c0_i32_4 c1_i32_6 k0_t3
  let v28 : Index := Scalar.indexCast arg20
  let c0_20 : Index := 0#32
  let c0_21 : Index := 0#32
  ![v28.toNat, 0, 0]
def k0_off30 (k0_t3 : Fin k0_t3_loop.trips) : Fin 2 → Nat :=
  let c0_i32_4 : BitVec 32 := 0#32
  let c1_i32_6 : BitVec 32 := 1#32
  let arg20 : BitVec 32 := Scf.iv c0_i32_4 c1_i32_6 k0_t3
  let c256_i32 : BitVec 32 := 256#32
  let v31 : BitVec 32 := Scalar.muli arg20 c256_i32
  let v32 : Index := Scalar.indexCast v31
  let c0_22 : Index := 0#32
  ![v32.toNat, 0]
@[reducible] def k0_t4_loop : Scf.Loop 32 :=
  let c0_i32_14 : BitVec 32 := 0#32
  let c24_i32_15 : BitVec 32 := 24#32
  let v26 : BitVec 32 := Scalar.addi c0_i32_14 c24_i32_15
  let c1_i32_16 : BitVec 32 := 1#32
  ⟨c0_i32_14, v26, c1_i32_16⟩
def k0_off31 (k0_t4 : Fin k0_t4_loop.trips) : Fin 2 → Nat :=
  let c0_i32_14 : BitVec 32 := 0#32
  let c1_i32_16 : BitVec 32 := 1#32
  let arg20 : BitVec 32 := Scf.iv c0_i32_14 c1_i32_16 k0_t4
  let c64_i32 : BitVec 32 := 64#32
  let v27 : BitVec 32 := Scalar.muli arg20 c64_i32
  let v28 : Index := Scalar.indexCast v27
  let c0_18 : Index := 0#32
  ![v28.toNat, 0]
def k0_off32 (k0_t4 : Fin k0_t4_loop.trips) : Fin 2 → Nat :=
  let c0_i32_14 : BitVec 32 := 0#32
  let c1_i32_16 : BitVec 32 := 1#32
  let arg20 : BitVec 32 := Scf.iv c0_i32_14 c1_i32_16 k0_t4
  let c64_i32 : BitVec 32 := 64#32
  let v27 : BitVec 32 := Scalar.muli arg20 c64_i32
  let v45 : Index := Scalar.indexCast v27
  let c0_25 : Index := 0#32
  ![v45.toNat, 0]
def k0_off33 (k0_t4 : Fin k0_t4_loop.trips) : Fin 2 → Nat :=
  let c0_i32_14 : BitVec 32 := 0#32
  let c1_i32_16 : BitVec 32 := 1#32
  let arg20 : BitVec 32 := Scf.iv c0_i32_14 c1_i32_16 k0_t4
  let c64_i32 : BitVec 32 := 64#32
  let v27 : BitVec 32 := Scalar.muli arg20 c64_i32
  let v155 : Index := Scalar.indexCast v27
  let c128 : Index := 128#32
  ![v155.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6144x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6144x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6144x256 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6144x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1536x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1536x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1536x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1536x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1536x256 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1536x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1536x256 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1536x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S2x3072x1536 : Shape := ⟨3, ![2, 3072, 1536]⟩
abbrev S2x3072x12 : Shape := ⟨3, ![2, 3072, 12]⟩
abbrev S2x3072x4096 : Shape := ⟨3, ![2, 3072, 4096]⟩
abbrev S2x3072x32 : Shape := ⟨3, ![2, 3072, 32]⟩
abbrev S1536x4096 : Shape := ⟨2, ![1536, 4096]⟩
abbrev S1536x32 : Shape := ⟨2, ![1536, 32]⟩
abbrev S_ : Shape := ⟨0, ![]⟩
abbrev S1x1 : Shape := ⟨2, ![1, 1]⟩
abbrev S2x3072x12x128 : Shape := ⟨4, ![2, 3072, 12, 128]⟩
abbrev S2x3072x12x1 : Shape := ⟨4, ![2, 3072, 12, 1]⟩
abbrev S2x3072x32x128 : Shape := ⟨4, ![2, 3072, 32, 128]⟩
abbrev S2x3072x32x1 : Shape := ⟨4, ![2, 3072, 32, 1]⟩
abbrev S1536x32x128 : Shape := ⟨3, ![1536, 32, 128]⟩
abbrev S1536x32x1 : Shape := ⟨3, ![1536, 32, 1]⟩

abbrev nBuf : Space → Nat
  | .hbm => 17
  | .vmem => 15
  | .smem => 1
  | _ => 0

abbrev bufTy : (tb : Table) → Fin (tcTables nBuf tb) → BufTy
  | .hbm, ⟨0, _⟩ => ⟨S2x3072x1536, .fp8e4m3⟩
  | .hbm, ⟨1, _⟩ => ⟨S2x3072x12, .f32⟩
  | .hbm, ⟨2, _⟩ => ⟨S2x3072x4096, .fp8e5m2⟩
  | .hbm, ⟨3, _⟩ => ⟨S2x3072x32, .f32⟩
  | .hbm, ⟨4, _⟩ => ⟨S1536x4096, .bf16⟩
  | .hbm, ⟨5, _⟩ => ⟨S1536x4096, .i8⟩
  | .hbm, ⟨6, _⟩ => ⟨S1536x32, .f32⟩
  | .hbm, ⟨7, _⟩ => ⟨S1536x4096, .i8⟩
  | .hbm, ⟨8, _⟩ => ⟨S1536x32, .f32⟩
  | .hbm, ⟨9, _⟩ => ⟨S_, .i32⟩
  | .hbm, ⟨10, _⟩ => ⟨S1x1, .i32⟩
  | .hbm, ⟨11, _⟩ => ⟨S1536x4096, .bf16⟩
  | .hbm, ⟨12, _⟩ => ⟨S1536x4096, .f32⟩
  | .hbm, ⟨13, _⟩ => ⟨S1536x4096, .i8⟩
  | .hbm, ⟨14, _⟩ => ⟨S1536x32, .f32⟩
  | .hbm, ⟨15, _⟩ => ⟨S1536x4096, .i8⟩
  | .hbm, ⟨16, _⟩ => ⟨S1536x32, .f32⟩
  | .local _ .vmem, ⟨0, _⟩ => ⟨S2x3072x1536, .fp8e4m3⟩
  | .local _ .vmem, ⟨1, _⟩ => ⟨S2x3072x12, .f32⟩
  | .local _ .vmem, ⟨2, _⟩ => ⟨S2x3072x4096, .fp8e5m2⟩
  | .local _ .vmem, ⟨3, _⟩ => ⟨S2x3072x32, .f32⟩
  | .local _ .vmem, ⟨4, _⟩ => ⟨S1536x4096, .bf16⟩
  | .local _ .vmem, ⟨5, _⟩ => ⟨S1536x4096, .i8⟩
  | .local _ .vmem, ⟨6, _⟩ => ⟨S1536x32, .f32⟩
  | .local _ .vmem, ⟨7, _⟩ => ⟨S1536x4096, .i8⟩
  | .local _ .vmem, ⟨8, _⟩ => ⟨S1536x32, .f32⟩
  | .local _ .vmem, ⟨9, _⟩ => ⟨S1536x4096, .bf16⟩
  | .local _ .vmem, ⟨10, _⟩ => ⟨S1536x4096, .f32⟩
  | .local _ .vmem, ⟨11, _⟩ => ⟨S1536x4096, .i8⟩
  | .local _ .vmem, ⟨12, _⟩ => ⟨S1536x32, .f32⟩
  | .local _ .vmem, ⟨13, _⟩ => ⟨S1536x4096, .i8⟩
  | .local _ .vmem, ⟨14, _⟩ => ⟨S1536x32, .f32⟩
  | .local _ .smem, ⟨0, _⟩ => ⟨S1x1, .i32⟩
  | _, _ => ⟨S2x3072x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg9_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S2x3072x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3072x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3072x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x4096 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1536x4096 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1536x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.KLoop.lean ====
module

public import proofs.«01_k».proof.Proof.Gen.Kernel.Loops

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option warn.classDefReducibility false in
/-- The row-block loop of the optimiser step, by the invariant that what it reads stays as it is and what it writes holds something. -/
@[sl_loop] def loopInv_k0_t4 (𝒱 : Variants) (c : Dev nD) (bd : Option 𝒱.V) (E : Set ℕ) (i : grid0.Coords) (arg1 : Memref sig .tc .smem S1x1 .i32) (harg1 : arg1.IsWhole) (arg2 : Memref sig .tc .vmem S6144x1536 .fp8e4m3) (harg2 : arg2.IsWhole) (arg3 : Memref sig .tc .vmem S6144x12 .f32) (harg3 : arg3.IsWhole) (arg4 : Memref sig .tc .vmem S6144x256 .fp8e5m2) (harg4 : arg4.IsWhole) (arg5 : Memref sig .tc .vmem S6144x32 .f32) (harg5 : arg5.IsWhole) (arg6 : Memref sig .tc .vmem S1536x256 .bf16) (harg6 : arg6.IsWhole) (arg7 : Memref sig .tc .vmem S1536x256 .i8) (harg7 : arg7.IsWhole) (arg8 : Memref sig .tc .vmem S1536x32 .f32) (harg8 : arg8.IsWhole) (arg9 : Memref sig .tc .vmem S1536x256 .i8) (harg9 : arg9.IsWhole) (arg10 : Memref sig .tc .vmem S1536x32 .f32) (harg10 : arg10.IsWhole) (arg11 : Memref sig .tc .vmem S1536x256 .bf16) (harg11 : arg11.IsWhole) (arg12 : Memref sig .tc .vmem S1536x256 .f32) (harg12 : arg12.IsWhole) (arg13 : Memref sig .tc .vmem S1536x256 .i8) (harg13 : arg13.IsWhole) (arg14 : Memref sig .tc .vmem S1536x32 .f32) (harg14 : arg14.IsWhole) (arg15 : Memref sig .tc .vmem S1536x256 .i8) (harg15 : arg15.IsWhole) (arg16 : Memref sig .tc .vmem S1536x32 .f32) (harg16 : arg16.IsWhole) (arg17 : Memref sig .tc .vmem S24x1536x256 .bf16) (harg17 : arg17.IsWhole) (arg18 : Memref sig .tc .vmem S6144x256 .bf16) (harg18 : arg18.IsWhole) (arg19 : Memref sig .tc .vmem S1536x256 .f32) (harg19 : arg19.IsWhole) (arg0 : BitVec 32) (v9 : Elt F .i32) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg19 : BufTy.Contents (Elt F) arg19.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v9 where
  inv _ _ := iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg19.view.loc (c : Thread nD τ) ↦[arg19.view.set]{fullShare} X_arg19) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))
  step k acc := by
    have hk : k.val < 24 := Nat.lt_of_lt_of_le k.isLt k0_t4_abs.2.1
    iintro ⟨HR6, HR7, HR8, HR9, HR10, HR19, ⟨%f11, HW11⟩, ⟨%f12, HW12⟩, ⟨%f13, HW13⟩, ⟨%f14, HW14⟩, ⟨%f15, HW15⟩, ⟨%f16, HW16⟩⟩
    unfold k0_t4_body
    sl_exec
    sl_step
    sl_close

end Cert.Kernel.Hand

end
-- ==== Proof.KFrame.lean ====
module

public import proofs.«01_k».proof.Proof.Gen.Kernel.Frame
public import proofs.«01_k».proof.Proof.KLoop
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs a grid point runs on -/

abbrev ms0_0 (t : Fin cfg0.N) : Memref sig .tc .smem S1x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x1536 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x12 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x256 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6144x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x256 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1536x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1536x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1536x256 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x32 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1536x256 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1536x32 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S24x1536x256 .bf16 := Memref.whole cc0_scratch0
abbrev scM0_1 : Memref sig .tc .vmem S6144x256 .bf16 := Memref.whole cc0_scratch1
abbrev scM0_2 : Memref sig .tc .vmem S1536x256 .f32 := Memref.whole cc0_scratch2

/-- The region invariant: every scratch buffer at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The kernel body -/

set_option maxHeartbeats 1000000 in
/-- The body on whole memrefs, whatever the outputs and the scratch hold: it ends with the inputs as they were and something in every output and scratch buffer. -/
theorem kernel_run (c : Dev nD) (i : grid0.Coords) (arg1 : Memref sig .tc .smem S1x1 .i32) (harg1 : arg1.IsWhole) (arg2 : Memref sig .tc .vmem S6144x1536 .fp8e4m3) (harg2 : arg2.IsWhole) (arg3 : Memref sig .tc .vmem S6144x12 .f32) (harg3 : arg3.IsWhole) (arg4 : Memref sig .tc .vmem S6144x256 .fp8e5m2) (harg4 : arg4.IsWhole) (arg5 : Memref sig .tc .vmem S6144x32 .f32) (harg5 : arg5.IsWhole) (arg6 : Memref sig .tc .vmem S1536x256 .bf16) (harg6 : arg6.IsWhole) (arg7 : Memref sig .tc .vmem S1536x256 .i8) (harg7 : arg7.IsWhole) (arg8 : Memref sig .tc .vmem S1536x32 .f32) (harg8 : arg8.IsWhole) (arg9 : Memref sig .tc .vmem S1536x256 .i8) (harg9 : arg9.IsWhole) (arg10 : Memref sig .tc .vmem S1536x32 .f32) (harg10 : arg10.IsWhole) (arg11 : Memref sig .tc .vmem S1536x256 .bf16) (harg11 : arg11.IsWhole) (arg12 : Memref sig .tc .vmem S1536x256 .f32) (harg12 : arg12.IsWhole) (arg13 : Memref sig .tc .vmem S1536x256 .i8) (harg13 : arg13.IsWhole) (arg14 : Memref sig .tc .vmem S1536x32 .f32) (harg14 : arg14.IsWhole) (arg15 : Memref sig .tc .vmem S1536x256 .i8) (harg15 : arg15.IsWhole) (arg16 : Memref sig .tc .vmem S1536x32 .f32) (harg16 : arg16.IsWhole) (arg17 : Memref sig .tc .vmem S24x1536x256 .bf16) (harg17 : arg17.IsWhole) (arg18 : Memref sig .tc .vmem S6144x256 .bf16) (harg18 : arg18.IsWhole) (arg19 : Memref sig .tc .vmem S1536x256 .f32) (harg19 : arg19.IsWhole)
    (x0 : Vec F S1x1 .i32) (x1 : Vec F S6144x1536 .fp8e4m3) (x2 : Vec F S6144x12 .f32) (x3 : Vec F S6144x256 .fp8e5m2) (x4 : Vec F S6144x32 .f32) (x5 : Vec F S1536x256 .bf16) (x6 : Vec F S1536x256 .i8) (x7 : Vec F S1536x32 .f32) (x8 : Vec F S1536x256 .i8) (x9 : Vec F S1536x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
    ⊢ wp frame (wpE (defs₀ (F := F)) Variants.none c none) E (cc0_wgrad_adam8bit i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_wgrad_adam8bit_eq_skeleton]; unfold cc0_wgrad_adam8bit_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  by_cases hc : k0_cond1 i = 1#1
  · sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl
  · sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

/-! ## The pipeline's proof data -/

/-- The output windows, of whose contents nothing is said. -/
def forgets0 : Fin 16 → Bool := fun w => w.val == 10 || w.val == 11 || w.val == 12 || w.val == 13 || w.val == 14 || w.val == 15

/-- The proof data: the arrays as the region finds them, each input's buffer left at its block, nothing said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 4000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, show (dats m 0 c).Φ t.succ = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (kernel_run c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  iintro ⟨H0, H1, H2, H3, H4, H5, H6, H7, H8, H9, H10, H11, H12, H13, H14, H15, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The arguments -/

/-- From a run that leaves the staged inputs and the other buffers as they were: the arguments end unchanged. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 5 rfl).trans ((hA c 5).trans (V_main_arg4 m c)),
      (Pipeline.RDat.FramePost.arr_in h c 6 rfl).trans ((hA c 6).trans (V_main_arg5 m c)),
      (Pipeline.RDat.FramePost.arr_in h c 7 rfl).trans ((hA c 7).trans (V_main_arg6 m c)),
      (Pipeline.RDat.FramePost.arr_in h c 8 rfl).trans ((hA c 8).trans (V_main_arg7 m c)),
      (Pipeline.RDat.FramePost.arr_in h c 9 rfl).trans ((hA c 9).trans (V_main_arg8 m c)),
      ((h c).2 main_arg9 (Pipeline.mem_restRefs_of main_arg9 (by decide) (by decide))).trans (V_main_arg9 m c)⟩) h

/-! ## The run and the frame -/

set_option backward.isDefEq.respectTransparency.types false in
/-- The launch: it ends, every input array unchanged, with every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The launch, without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_rel m ρ (fun c => (dats m 0 c).toRForget forgets0) (A_eq m) (run_main m ρ)

/-- The frame: the program ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Hand

end
-- ==== Proof.IBase.lean ====
module

public import proofs.«01_k».proof.Proof.Gen.KernelIdeal.Skeleton
public import Idealize.ShloMosaic.Lib.Pointwise
public import Idealize.ShloMosaic.Lib.WholeRead
public import Idealize.ShloMosaic.Lib.Writes

@[expose] public section

set_option maxRecDepth 16384

noncomputable section

namespace Cert.KernelIdeal.Hand

open Cert.KernelIdeal Cert.KernelIdeal.Gen
open Idealize.ShloMosaic

/-! ## Reading arrays at numbers -/

/-- The entry `(i, j)` of a matrix, at any pair of numbers: an arbitrary value outside. -/
def at2 {n m : ℕ} {α : Type} [Nonempty α] (X : (⟨2, ![n, m]⟩ : Shape).Idx → α) (i j : ℕ) : α :=
  if h : i < n ∧ j < m then X (Idealize.ShloMosaic.ix2 ⟨i, h.1⟩ ⟨j, h.2⟩) else Classical.arbitrary α

/-- At the coordinates of an index it is the entry there. -/
theorem at2_eq {n m : ℕ} {α : Type} [Nonempty α] (X : (⟨2, ![n, m]⟩ : Shape).Idx → α) (y : (⟨2, ![n, m]⟩ : Shape).Idx)
    {i j : ℕ} (hi : i = (y 0).val) (hj : j = (y 1).val) : at2 X i j = X y := by
  have h0 : (y 0).val < n := (y 0).isLt
  have h1 : (y 1).val < m := (y 1).isLt
  unfold at2
  rw [dif_pos (by omega)]
  congr 1
  funext a
  fin_cases a
  · exact Fin.ext hi
  · exact Fin.ext hj

/-- The entry `(i, j, l)` of a rank-three array, at any three numbers: an arbitrary value outside. -/
def at3 {n m p : ℕ} {α : Type} [Nonempty α] (X : (⟨3, ![n, m, p]⟩ : Shape).Idx → α) (i j l : ℕ) : α :=
  if h : i < n ∧ j < m ∧ l < p then X (Idealize.ShloMosaic.ix3 ⟨i, h.1⟩ ⟨j, h.2.1⟩ ⟨l, h.2.2⟩) else Classical.arbitrary α

/-- At the coordinates of an index it is the entry there. -/
theorem at3_eq {n m p : ℕ} {α : Type} [Nonempty α] (X : (⟨3, ![n, m, p]⟩ : Shape).Idx → α) (y : (⟨3, ![n, m, p]⟩ : Shape).Idx)
    {i j l : ℕ} (hi : i = (y 0).val) (hj : j = (y 1).val) (hl : l = (y 2).val) : at3 X i j l = X y := by
  have h0 : (y 0).val < n := (y 0).isLt
  have h1 : (y 1).val < m := (y 1).isLt
  have h2 : (y 2).val < p := (y 2).isLt
  unfold at3
  rw [dif_pos (by omega)]
  congr 1
  funext a
  fin_cases a
  · exact Fin.ext hi
  · exact Fin.ext hj
  · exact Fin.ext hl

/-- Entries at equal numbers are equal. -/
theorem at3_congr {n m p : ℕ} {α : Type} [Nonempty α] (X : (⟨3, ![n, m, p]⟩ : Shape).Idx → α) {i j l i' j' l' : ℕ}
    (hi : i = i') (hj : j = j') (hl : l = l') : at3 X i j l = at3 X i' j' l' := by
  subst hi hj hl; rfl

section Reads

variable {sg : RefSig} {κ : Kind} {sp : Space} {e : EltTy}

/-- A load through a rectangle of a matrix reads the entry at the offsets plus the index. -/
theorem readAt2 {n m : ℕ} [Nonempty (Elt Ideal e)] (v : View sg κ sp ⟨2, ![n, m]⟩ e) (f : v.ty.Contents (Elt Ideal)) (off size : Fin 2 → ℕ)
    (inb : ∀ a, off a + size a ≤ (⟨2, ![n, m]⟩ : Shape).size a) (x : (Rect.unit (s := ⟨2, ![n, m]⟩) off size inb).shape.Idx) :
    v.readAt (Elt Ideal) (Rect.unit (s := ⟨2, ![n, m]⟩) off size inb).toLoadRect f x
      = at2 (v.read (Elt Ideal) f) (off 0 + (x 0).val) (off 1 + (x 1).val) := by
  symm
  refine at2_eq _ ((Rect.unit (s := ⟨2, ![n, m]⟩) off size inb).toLoadRect.idx x) ?_ ?_ <;> simp

/-- The same at offsets whose values are known. -/
theorem load2 {n m : ℕ} [Nonempty (Elt Ideal e)] (v : View sg κ sp ⟨2, ![n, m]⟩ e) (f : v.ty.Contents (Elt Ideal)) {off size : Fin 2 → ℕ} {R C : ℕ}
    (ho : off = ![R, C]) (inb : ∀ a, off a + size a ≤ (⟨2, ![n, m]⟩ : Shape).size a) (x : (Rect.unit (s := ⟨2, ![n, m]⟩) off size inb).shape.Idx) :
    v.readAt (Elt Ideal) (Rect.unit (s := ⟨2, ![n, m]⟩) off size inb).toLoadRect f x
      = at2 (v.read (Elt Ideal) f) (R + (x 0).val) (C + (x 1).val) := by
  subst ho; exact readAt2 v f _ _ inb x

/-- A load through a rectangle of a rank-three array reads the entry at the offsets plus the index. -/
theorem readAt3 {n m p : ℕ} [Nonempty (Elt Ideal e)] (v : View sg κ sp ⟨3, ![n, m, p]⟩ e) (f : v.ty.Contents (Elt Ideal)) (off size : Fin 3 → ℕ)
    (inb : ∀ a, off a + size a ≤ (⟨3, ![n, m, p]⟩ : Shape).size a) (x : (Rect.unit (s := ⟨3, ![n, m, p]⟩) off size inb).shape.Idx) :
    v.readAt (Elt Ideal) (Rect.unit (s := ⟨3, ![n, m, p]⟩) off size inb).toLoadRect f x
      = at3 (v.read (Elt Ideal) f) (off 0 + (x 0).val) (off 1 + (x 1).val) (off 2 + (x 2).val) := by
  symm
  refine at3_eq _ ((Rect.unit (s := ⟨3, ![n, m, p]⟩) off size inb).toLoadRect.idx x) ?_ ?_ ?_ <;> simp

/-- After a list of writes, each of which agrees with a target, an element that a write covers or that agreed before
agrees with the target. -/
theorem writes_agree {s : Shape} (v : View sg κ sp s e) (f : v.ty.Contents (Elt Ideal)) (G : s.Idx → Elt Ideal e) (L : List (View.Piece (Elt Ideal) s e))
    (hG : ∀ p ∈ L, ∀ x : p.1.shape.Idx, p.2 x = G (p.1.emb x)) (y : s.Idx)
    (h : (∃ p ∈ L, y ∈ p.1.set) ∨ v.read (Elt Ideal) f y = G y) : v.read (Elt Ideal) (v.writes (Elt Ideal) f L) y = G y := by
  by_cases hc : ∃ p ∈ L, y ∈ p.1.set
  · exact View.read_writes_apply_of_pieces v f G L hG y hc
  · rw [View.read_writes_apply_of_forall_not_mem v f y L fun p hp hy => hc ⟨p, hp, hy⟩]
    exact h.resolve_left hc

/-- An element that none of the writes covers is as before. -/
theorem writes_other {s : Shape} (v : View sg κ sp s e) (f : v.ty.Contents (Elt Ideal)) (L : List (View.Piece (Elt Ideal) s e)) (y : s.Idx)
    (h : ∀ p ∈ L, y ∉ p.1.set) : v.read (Elt Ideal) (v.writes (Elt Ideal) f L) y = v.read (Elt Ideal) f y :=
  View.read_writes_apply_of_forall_not_mem v f y L h

end Reads

/-! ## The offsets of the loops' rectangles, in numbers -/

/-- The counter of a trip, as a number. -/
theorem iv_toNat (k : ℕ) (hk : k < 24) : (Scalar.indexCast (Scf.iv 0#32 1#32 k)).toNat = k := by
  simp [Scf.iv, Scalar.indexCast]
  omega

/-- The counter of a trip times a step, as a number. -/
theorem iv_mul_toNat (k : ℕ) (hk : k < 24) (n : ℕ) (hn : n ≤ 256) :
    (Scalar.indexCast (Scalar.muli (Scf.iv 0#32 1#32 k) (BitVec.ofNat 32 n))).toNat = n * k := by
  have h : k * n ≤ 24 * 256 := Nat.mul_le_mul (by omega) hn
  simp [Scf.iv, Scalar.indexCast, Scalar.muli, IntOp.muli]
  rw [Nat.mul_comm n k]
  omega

/-- The offsets number 1. -/
theorem off1_eq (k : Fin k0_t1_loop.trips) : k0_off1 k = ![256 * k.val, 0] := by
  have hk : k.val < 24 := Nat.lt_of_lt_of_le k.isLt k0_t1_abs.2.1
  simp only [k0_off1]
  rw [iv_mul_toNat k.val hk 256 (by omega)]

/-- The offsets number 2. -/
theorem off2_eq (k : Fin k0_t1_loop.trips) : k0_off2 k = ![256 * k.val, 0] := by
  have hk : k.val < 24 := Nat.lt_of_lt_of_le k.isLt k0_t1_abs.2.1
  simp only [k0_off2]
  rw [iv_mul_toNat k.val hk 256 (by omega)]

/-- The offsets number 3. -/
theorem off3_eq (k : Fin k0_t1_loop.trips) : k0_off3 k = ![k.val, 0, 0] := by
  have hk : k.val < 24 := Nat.lt_of_lt_of_le k.isLt k0_t1_abs.2.1
  simp only [k0_off3]
  rw [iv_toNat k.val hk]

/-- The offsets number 4. -/
theorem off4_eq (k : Fin k0_t1_loop.trips) : k0_off4 k = ![256 * k.val, 128] := by
  have hk : k.val < 24 := Nat.lt_of_lt_of_le k.isLt k0_t1_abs.2.1
  simp only [k0_off4]
  rw [iv_mul_toNat k.val hk 256 (by omega)]

/-- The offsets number 5. -/
theorem off5_eq (k : Fin k0_t1_loop.trips) : k0_off5 k = ![k.val, 128, 0] := by
  have hk : k.val < 24 := Nat.lt_of_lt_of_le k.isLt k0_t1_abs.2.1
  simp only [k0_off5]
  rw [iv_toNat k.val hk]

/-- The offsets number 6. -/
theorem off6_eq (k : Fin k0_t1_loop.trips) : k0_off6 k = ![256 * k.val, 256] := by
  have hk : k.val < 24 := Nat.lt_of_lt_of_le k.isLt k0_t1_abs.2.1
  simp only [k0_off6]
  rw [iv_mul_toNat k.val hk 256 (by omega)]

/-- The offsets number 7. -/
theorem off7_eq (k : Fin k0_t1_loop.trips) : k0_off7 k = ![k.val, 256, 0] := by
  have hk : k.val < 24 := Nat.lt_of_lt_of_le k.isLt k0_t1_abs.2.1
  simp only [k0_off7]
  rw [iv_toNat k.val hk]

/-- The offsets number 8. -/
theorem off8_eq (k : Fin k0_t1_loop.trips) : k0_off8 k = ![256 * k.val, 384] := by
  have hk : k.val < 24 := Nat.lt_of_lt_of_le k.isLt k0_t1_abs.2.1
  simp only [k0_off8]
  rw [iv_mul_toNat k.val hk 256 (by omega)]

/-- The offsets number 9. -/
theorem off9_eq (k : Fin k0_t1_loop.trips) : k0_off9 k = ![k.val, 384, 0] := by
  have hk : k.val < 24 := Nat.lt_of_lt_of_le k.isLt k0_t1_abs.2.1
  simp only [k0_off9]
  rw [iv_toNat k.val hk]

/-- The offsets number 10. -/
theorem off10_eq (k : Fin k0_t1_loop.trips) : k0_off10 k = ![256 * k.val, 512] := by
  have hk : k.val < 24 := Nat.lt_of_lt_of_le k.isLt k0_t1_abs.2.1
  simp only [k0_off10]
  rw [iv_mul_toNat k.val hk 256 (by omega)]

/-- The offsets number 11. -/
theorem off11_eq (k : Fin k0_t1_loop.trips) : k0_off11 k = ![k.val, 512, 0] := by
  have hk : k.val < 24 := Nat.lt_of_lt_of_le k.isLt k0_t1_abs.2.1
  simp only [k0_off11]
  rw [iv_toNat k.val hk]

/-- The offsets number 12. -/
theorem off12_eq (k : Fin k0_t1_loop.trips) : k0_off12 k = ![256 * k.val, 640] := by
  have hk : k.val < 24 := Nat.lt_of_lt_of_le k.isLt k0_t1_abs.2.1
  simp only [k0_off12]
  rw [iv_mul_toNat k.val hk 256 (by omega)]

/-- The offsets number 13. -/
theorem off13_eq (k : Fin k0_t1_loop.trips) : k0_off13 k = ![k.val, 640, 0] := by
  have hk : k.val < 24 := Nat.lt_of_lt_of_le k.isLt k0_t1_abs.2.1
  simp only [k0_off13]
  rw [iv_toNat k.val hk]

/-- The offsets number 14. -/
theorem off14_eq (k : Fin k0_t1_loop.trips) : k0_off14 k = ![256 * k.val, 768] := by
  have hk : k.val < 24 := Nat.lt_of_lt_of_le k.isLt k0_t1_abs.2.1
  simp only [k0_off14]
  rw [iv_mul_toNat k.val hk 256 (by omega)]

/-- The offsets number 15. -/
theorem off15_eq (k : Fin k0_t1_loop.trips) : k0_off15 k = ![k.val, 768, 0] := by
  have hk : k.val < 24 := Nat.lt_of_lt_of_le k.isLt k0_t1_abs.2.1
  simp only [k0_off15]
  rw [iv_toNat k.val hk]

/-- The offsets number 16. -/
theorem off16_eq (k : Fin k0_t1_loop.trips) : k0_off16 k = ![256 * k.val, 896] := by
  have hk : k.val < 24 := Nat.lt_of_lt_of_le k.isLt k0_t1_abs.2.1
  simp only [k0_off16]
  rw [iv_mul_toNat k.val hk 256 (by omega)]

/-- The offsets number 17. -/
theorem off17_eq (k : Fin k0_t1_loop.trips) : k0_off17 k = ![k.val, 896, 0] := by
  have hk : k.val < 24 := Nat.lt_of_lt_of_le k.isLt k0_t1_abs.2.1
  simp only [k0_off17]
  rw [iv_toNat k.val hk]

/-- The offsets number 18. -/
theorem off18_eq (k : Fin k0_t1_loop.trips) : k0_off18 k = ![256 * k.val, 1024] := by
  have hk : k.val < 24 := Nat.lt_of_lt_of_le k.isLt k0_t1_abs.2.1
  simp only [k0_off18]
  rw [iv_mul_toNat k.val hk 256 (by omega)]

/-- The offsets number 19. -/
theorem off19_eq (k : Fin k0_t1_loop.trips) : k0_off19 k = ![k.val, 1024, 0] := by
  have hk : k.val < 24 := Nat.lt_of_lt_of_le k.isLt k0_t1_abs.2.1
  simp only [k0_off19]
  rw [iv_toNat k.val hk]

/-- The offsets number 20. -/
theorem off20_eq (k : Fin k0_t1_loop.trips) : k0_off20 k = ![256 * k.val, 1152] := by
  have hk : k.val < 24 := Nat.lt_of_lt_of_le k.isLt k0_t1_abs.2.1
  simp only [k0_off20]
  rw [iv_mul_toNat k.val hk 256 (by omega)]

/-- The offsets number 21. -/
theorem off21_eq (k : Fin k0_t1_loop.trips) : k0_off21 k = ![k.val, 1152, 0] := by
  have hk : k.val < 24 := Nat.lt_of_lt_of_le k.isLt k0_t1_abs.2.1
  simp only [k0_off21]
  rw [iv_toNat k.val hk]

/-- The offsets number 22. -/
theorem off22_eq (k : Fin k0_t1_loop.trips) : k0_off22 k = ![256 * k.val, 1280] := by
  have hk : k.val < 24 := Nat.lt_of_lt_of_le k.isLt k0_t1_abs.2.1
  simp only [k0_off22]
  rw [iv_mul_toNat k.val hk 256 (by omega)]

/-- The offsets number 23. -/
theorem off23_eq (k : Fin k0_t1_loop.trips) : k0_off23 k = ![k.val, 1280, 0] := by
  have hk : k.val < 24 := Nat.lt_of_lt_of_le k.isLt k0_t1_abs.2.1
  simp only [k0_off23]
  rw [iv_toNat k.val hk]

/-- The offsets number 24. -/
theorem off24_eq (k : Fin k0_t1_loop.trips) : k0_off24 k = ![256 * k.val, 1408] := by
  have hk : k.val < 24 := Nat.lt_of_lt_of_le k.isLt k0_t1_abs.2.1
  simp only [k0_off24]
  rw [iv_mul_toNat k.val hk 256 (by omega)]

/-- The offsets number 25. -/
theorem off25_eq (k : Fin k0_t1_loop.trips) : k0_off25 k = ![k.val, 1408, 0] := by
  have hk : k.val < 24 := Nat.lt_of_lt_of_le k.isLt k0_t1_abs.2.1
  simp only [k0_off25]
  rw [iv_toNat k.val hk]

/-- The offsets number 26. -/
theorem off26_eq (k : Fin k0_t2_loop.trips) : k0_off26 k = ![256 * k.val, 0] := by
  have hk : k.val < 24 := Nat.lt_of_lt_of_le k.isLt k0_t2_abs.2.1
  simp only [k0_off26]
  rw [iv_mul_toNat k.val hk 256 (by omega)]

/-- The offsets number 27. -/
theorem off27_eq (k : Fin k0_t2_loop.trips) : k0_off27 k = ![256 * k.val, 0] := by
  have hk : k.val < 24 := Nat.lt_of_lt_of_le k.isLt k0_t2_abs.2.1
  simp only [k0_off27]
  rw [iv_mul_toNat k.val hk 256 (by omega)]

/-- The offsets number 28. -/
theorem off28_eq (k : Fin k0_t2_loop.trips) : k0_off28 k = ![256 * k.val, 128] := by
  have hk : k.val < 24 := Nat.lt_of_lt_of_le k.isLt k0_t2_abs.2.1
  simp only [k0_off28]
  rw [iv_mul_toNat k.val hk 256 (by omega)]

/-- The offsets number 29. -/
theorem off29_eq (k : Fin k0_t3_loop.trips) : k0_off29 k = ![k.val, 0, 0] := by
  have hk : k.val < 24 := Nat.lt_of_lt_of_le k.isLt k0_t3_abs.2.1
  simp only [k0_off29]
  rw [iv_toNat k.val hk]

/-- The offsets number 30. -/
theorem off30_eq (k : Fin k0_t3_loop.trips) : k0_off30 k = ![256 * k.val, 0] := by
  have hk : k.val < 24 := Nat.lt_of_lt_of_le k.isLt k0_t3_abs.2.1
  simp only [k0_off30]
  rw [iv_mul_toNat k.val hk 256 (by omega)]

/-- The offsets number 31. -/
theorem off31_eq (k : Fin k0_t4_loop.trips) : k0_off31 k = ![64 * k.val, 0] := by
  have hk : k.val < 24 := Nat.lt_of_lt_of_le k.isLt k0_t4_abs.2.1
  simp only [k0_off31]
  rw [iv_mul_toNat k.val hk 64 (by omega)]

/-- The offsets number 32. -/
theorem off32_eq (k : Fin k0_t4_loop.trips) : k0_off32 k = ![64 * k.val, 0] := by
  have hk : k.val < 24 := Nat.lt_of_lt_of_le k.isLt k0_t4_abs.2.1
  simp only [k0_off32]
  rw [iv_mul_toNat k.val hk 64 (by omega)]

/-- The offsets number 33. -/
theorem off33_eq (k : Fin k0_t4_loop.trips) : k0_off33 k = ![64 * k.val, 128] := by
  have hk : k.val < 24 := Nat.lt_of_lt_of_le k.isLt k0_t4_abs.2.1
  simp only [k0_off33]
  rw [iv_mul_toNat k.val hk 64 (by omega)]

end Cert.KernelIdeal.Hand

end
-- ==== Proof.IPay.lean ====
module

public import proofs.«01_k».proof.Proof.IBase

@[expose] public section

set_option maxRecDepth 16384

noncomputable section

namespace Cert.KernelIdeal.Hand

open Cert.KernelIdeal Cert.KernelIdeal.Gen
open Idealize.ShloMosaic

/-! ## The two widened operands, and what their loops write -/

/-- The transposed widened activations in blocks of 256 tokens: code times scale. -/
def XT (X2 : S6144x1536.Idx → EReal) (X3 : S6144x12.Idx → EReal) (y : S24x1536x256.Idx) : EReal :=
  at2 X2 (256 * (y 0).val + (y 2).val) (y 1).val * at2 X3 (256 * (y 0).val + (y 2).val) ((y 1).val / 128)

/-- The number of the scale block that a grid point's column block `b` belongs to, as the kernel computes it. -/
def blk (arg0 : BitVec 32) (b : ℕ) : BitVec 32 := Scalar.addi (Scalar.muli arg0 2#32) (BitVec.ofNat 32 b)

/-- The lane that a block number selects. -/
def laneOf (w : BitVec 32) : ℕ :=
  (Scalar.select (IntOp.cmpi CmpIPredicate.slt w 0#32) (IntOp.addi w 128#32) w).toNat % 128

/-- A scale read at a lane of a row padded with zeros. -/
def padAt {n : ℕ} (X : (⟨2, ![n, 32]⟩ : Shape).Idx → EReal) (i lane : ℕ) : EReal := if lane < 32 then at2 X i lane else 0

/-- The widened gradients of a tile of columns: code times scale. -/
def DYB (arg0 : BitVec 32) (X4 : S6144x256.Idx → EReal) (X5 : S6144x32.Idx → EReal) (y : S6144x256.Idx) : EReal :=
  at2 X4 (y 0).val (y 1).val * padAt X5 (y 0).val (laneOf (blk arg0 ((y 1).val / 128)))

/-- A padded row of a block, read at a lane, is the array's padded row at the block's offset. -/
theorem pad_read {n q : ℕ} (A : (⟨2, ![q, 32]⟩ : Shape).Idx → EReal) (X : (⟨2, ![n, 32]⟩ : Shape).Idx → EReal) (R : ℕ)
    (hA : ∀ y : (⟨2, ![q, 32]⟩ : Shape).Idx, A y = at2 X (R + (y 0).val) (y 1).val) (r : Fin q) (lane : ℕ) :
    (if h : lane < 32 then A (Idealize.ShloMosaic.ix2 r ⟨lane, h⟩) else 0) = padAt X (R + r.val) lane := by
  unfold padAt
  by_cases h : lane < 32
  · rw [dif_pos h, if_pos h, hA]; rfl
  · rw [dif_neg h, if_neg h]

section Mem

/-- Membership in a rectangle of a matrix, in numbers. -/
theorem mem2 {n m : ℕ} {off size : Fin 2 → ℕ} {inb} (y : (⟨2, ![n, m]⟩ : Shape).Idx) :
    y ∈ (Rect.unit (s := ⟨2, ![n, m]⟩) off size inb).set
      ↔ (off 0 ≤ (y 0).val ∧ (y 0).val < off 0 + size 0) ∧ (off 1 ≤ (y 1).val ∧ (y 1).val < off 1 + size 1) := by
  rw [Rect.mem_set_unit]
  exact Fin.forall_fin_two

/-- Membership in a rectangle of a rank-three array, in numbers. -/
theorem mem3 {n m p : ℕ} {off size : Fin 3 → ℕ} {inb} (y : (⟨3, ![n, m, p]⟩ : Shape).Idx) :
    y ∈ (Rect.unit (s := ⟨3, ![n, m, p]⟩) off size inb).set
      ↔ (off 0 ≤ (y 0).val ∧ (y 0).val < off 0 + size 0) ∧ (off 1 ≤ (y 1).val ∧ (y 1).val < off 1 + size 1)
        ∧ (off 2 ≤ (y 2).val ∧ (y 2).val < off 2 + size 2) := by
  rw [Rect.mem_set_unit, Fin.forall_fin_succ, Fin.forall_fin_two]
  rfl

end Mem

section One

variable (v2 : View sig .tc .vmem S6144x1536 .fp8e4m3) (X2 : v2.ty.Contents (Elt Ideal))
  (v3 : View sig .tc .vmem S6144x12 .f32) (X3 : v3.ty.Contents (Elt Ideal)) (k : Fin k0_t1_loop.trips)

/-- Block 0's columns of the widened operand, at an entry. -/
theorem pay_x0 (a : Vec Ideal S256x12 .f32) (b : Vec Ideal S256x128 .fp8e4m3) (y : S1x128x256.Idx) :
    (k0_pay11 a b) y
      = (b (Idealize.ShloMosaic.ix2 (y 2) (y 1)) : EReal) * a (Idealize.ShloMosaic.ix2 (y 2) 0) := by
  pointwise [k0_pay10, k0_pay11]

/-- What a trip stores at block 0 is the widened operand there. -/
theorem piece_x0 (h2 h3 h17) (x : S1x128x256.Idx) :
    (k0_pay11 (v3.readAt (Elt Ideal) (Rect.unit (s := S6144x12) (k0_off1 k) S256x12.size h3).toLoadRect X3) (v2.readAt (Elt Ideal) (Rect.unit (s := S6144x1536) (k0_off2 k) S256x128.size h2).toLoadRect X2) : FVec Ideal S1x128x256 .bf16) x
      = XT (v2.read (Elt Ideal) X2) (v3.read (Elt Ideal) X3) ((Rect.unit (s := S24x1536x256) (k0_off3 k) S1x128x256.size h17).emb x) := by
  rw [pay_x0, readAt2, readAt2]
  unfold XT
  simp only [off1_eq, off2_eq, off3_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 1's columns of the widened operand, at an entry. -/
theorem pay_x1 (a : Vec Ideal S256x12 .f32) (b : Vec Ideal S256x128 .fp8e4m3) (y : S1x128x256.Idx) :
    (k0_pay12 a b) y
      = (b (Idealize.ShloMosaic.ix2 (y 2) (y 1)) : EReal) * a (Idealize.ShloMosaic.ix2 (y 2) 1) := by
  pointwise [k0_pay10, k0_pay12]

/-- What a trip stores at block 1 is the widened operand there. -/
theorem piece_x1 (h2 h3 h17) (x : S1x128x256.Idx) :
    (k0_pay12 (v3.readAt (Elt Ideal) (Rect.unit (s := S6144x12) (k0_off1 k) S256x12.size h3).toLoadRect X3) (v2.readAt (Elt Ideal) (Rect.unit (s := S6144x1536) (k0_off4 k) S256x128.size h2).toLoadRect X2) : FVec Ideal S1x128x256 .bf16) x
      = XT (v2.read (Elt Ideal) X2) (v3.read (Elt Ideal) X3) ((Rect.unit (s := S24x1536x256) (k0_off5 k) S1x128x256.size h17).emb x) := by
  rw [pay_x1, readAt2, readAt2]
  unfold XT
  simp only [off1_eq, off4_eq, off5_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 2's columns of the widened operand, at an entry. -/
theorem pay_x2 (a : Vec Ideal S256x12 .f32) (b : Vec Ideal S256x128 .fp8e4m3) (y : S1x128x256.Idx) :
    (k0_pay15 (k0_pay13 b) (k0_pay14 a)) y
      = (b (Idealize.ShloMosaic.ix2 (y 2) (y 1)) : EReal) * a (Idealize.ShloMosaic.ix2 (y 2) 2) := by
  pointwise [k0_pay10, k0_pay13, k0_pay14, k0_pay15]

/-- What a trip stores at block 2 is the widened operand there. -/
theorem piece_x2 (h2 h3 h17) (x : S1x128x256.Idx) :
    (k0_pay15 (k0_pay13 (v2.readAt (Elt Ideal) (Rect.unit (s := S6144x1536) (k0_off6 k) S256x128.size h2).toLoadRect X2)) (k0_pay14 (v3.readAt (Elt Ideal) (Rect.unit (s := S6144x12) (k0_off1 k) S256x12.size h3).toLoadRect X3)) : FVec Ideal S1x128x256 .bf16) x
      = XT (v2.read (Elt Ideal) X2) (v3.read (Elt Ideal) X3) ((Rect.unit (s := S24x1536x256) (k0_off7 k) S1x128x256.size h17).emb x) := by
  rw [pay_x2, readAt2, readAt2]
  unfold XT
  simp only [off1_eq, off6_eq, off7_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 3's columns of the widened operand, at an entry. -/
theorem pay_x3 (a : Vec Ideal S256x12 .f32) (b : Vec Ideal S256x128 .fp8e4m3) (y : S1x128x256.Idx) :
    (k0_pay16 (k0_pay10 a) b) y
      = (b (Idealize.ShloMosaic.ix2 (y 2) (y 1)) : EReal) * a (Idealize.ShloMosaic.ix2 (y 2) 3) := by
  pointwise [k0_pay10, k0_pay16]

/-- What a trip stores at block 3 is the widened operand there. -/
theorem piece_x3 (h2 h3 h17) (x : S1x128x256.Idx) :
    (k0_pay16 (k0_pay10 (v3.readAt (Elt Ideal) (Rect.unit (s := S6144x12) (k0_off1 k) S256x12.size h3).toLoadRect X3)) (v2.readAt (Elt Ideal) (Rect.unit (s := S6144x1536) (k0_off8 k) S256x128.size h2).toLoadRect X2) : FVec Ideal S1x128x256 .bf16) x
      = XT (v2.read (Elt Ideal) X2) (v3.read (Elt Ideal) X3) ((Rect.unit (s := S24x1536x256) (k0_off9 k) S1x128x256.size h17).emb x) := by
  rw [pay_x3, readAt2, readAt2]
  unfold XT
  simp only [off1_eq, off8_eq, off9_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 4's columns of the widened operand, at an entry. -/
theorem pay_x4 (a : Vec Ideal S256x12 .f32) (b : Vec Ideal S256x128 .fp8e4m3) (y : S1x128x256.Idx) :
    (k0_pay17 (k0_pay10 a) b) y
      = (b (Idealize.ShloMosaic.ix2 (y 2) (y 1)) : EReal) * a (Idealize.ShloMosaic.ix2 (y 2) 4) := by
  pointwise [k0_pay10, k0_pay17]

/-- What a trip stores at block 4 is the widened operand there. -/
theorem piece_x4 (h2 h3 h17) (x : S1x128x256.Idx) :
    (k0_pay17 (k0_pay10 (v3.readAt (Elt Ideal) (Rect.unit (s := S6144x12) (k0_off1 k) S256x12.size h3).toLoadRect X3)) (v2.readAt (Elt Ideal) (Rect.unit (s := S6144x1536) (k0_off10 k) S256x128.size h2).toLoadRect X2) : FVec Ideal S1x128x256 .bf16) x
      = XT (v2.read (Elt Ideal) X2) (v3.read (Elt Ideal) X3) ((Rect.unit (s := S24x1536x256) (k0_off11 k) S1x128x256.size h17).emb x) := by
  rw [pay_x4, readAt2, readAt2]
  unfold XT
  simp only [off1_eq, off10_eq, off11_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 5's columns of the widened operand, at an entry. -/
theorem pay_x5 (a : Vec Ideal S256x12 .f32) (b : Vec Ideal S256x128 .fp8e4m3) (y : S1x128x256.Idx) :
    (k0_pay19 (k0_pay18 (k0_pay10 a) b)) y
      = (b (Idealize.ShloMosaic.ix2 (y 2) (y 1)) : EReal) * a (Idealize.ShloMosaic.ix2 (y 2) 5) := by
  pointwise [k0_pay10, k0_pay18, k0_pay19]

/-- What a trip stores at block 5 is the widened operand there. -/
theorem piece_x5 (h2 h3 h17) (x : S1x128x256.Idx) :
    (k0_pay19 (k0_pay18 (k0_pay10 (v3.readAt (Elt Ideal) (Rect.unit (s := S6144x12) (k0_off1 k) S256x12.size h3).toLoadRect X3)) (v2.readAt (Elt Ideal) (Rect.unit (s := S6144x1536) (k0_off12 k) S256x128.size h2).toLoadRect X2)) : FVec Ideal S1x128x256 .bf16) x
      = XT (v2.read (Elt Ideal) X2) (v3.read (Elt Ideal) X3) ((Rect.unit (s := S24x1536x256) (k0_off13 k) S1x128x256.size h17).emb x) := by
  rw [pay_x5, readAt2, readAt2]
  unfold XT
  simp only [off1_eq, off12_eq, off13_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 6's columns of the widened operand, at an entry. -/
theorem pay_x6 (a : Vec Ideal S256x12 .f32) (b : Vec Ideal S256x128 .fp8e4m3) (y : S1x128x256.Idx) :
    (k0_pay20 (k0_pay10 a) b) y
      = (b (Idealize.ShloMosaic.ix2 (y 2) (y 1)) : EReal) * a (Idealize.ShloMosaic.ix2 (y 2) 6) := by
  pointwise [k0_pay10, k0_pay20]

/-- What a trip stores at block 6 is the widened operand there. -/
theorem piece_x6 (h2 h3 h17) (x : S1x128x256.Idx) :
    (k0_pay20 (k0_pay10 (v3.readAt (Elt Ideal) (Rect.unit (s := S6144x12) (k0_off1 k) S256x12.size h3).toLoadRect X3)) (v2.readAt (Elt Ideal) (Rect.unit (s := S6144x1536) (k0_off14 k) S256x128.size h2).toLoadRect X2) : FVec Ideal S1x128x256 .bf16) x
      = XT (v2.read (Elt Ideal) X2) (v3.read (Elt Ideal) X3) ((Rect.unit (s := S24x1536x256) (k0_off15 k) S1x128x256.size h17).emb x) := by
  rw [pay_x6, readAt2, readAt2]
  unfold XT
  simp only [off1_eq, off14_eq, off15_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 7's columns of the widened operand, at an entry. -/
theorem pay_x7 (a : Vec Ideal S256x12 .f32) (b : Vec Ideal S256x128 .fp8e4m3) (y : S1x128x256.Idx) :
    (k0_pay21 (k0_pay10 a) b) y
      = (b (Idealize.ShloMosaic.ix2 (y 2) (y 1)) : EReal) * a (Idealize.ShloMosaic.ix2 (y 2) 7) := by
  pointwise [k0_pay10, k0_pay21]

/-- What a trip stores at block 7 is the widened operand there. -/
theorem piece_x7 (h2 h3 h17) (x : S1x128x256.Idx) :
    (k0_pay21 (k0_pay10 (v3.readAt (Elt Ideal) (Rect.unit (s := S6144x12) (k0_off1 k) S256x12.size h3).toLoadRect X3)) (v2.readAt (Elt Ideal) (Rect.unit (s := S6144x1536) (k0_off16 k) S256x128.size h2).toLoadRect X2) : FVec Ideal S1x128x256 .bf16) x
      = XT (v2.read (Elt Ideal) X2) (v3.read (Elt Ideal) X3) ((Rect.unit (s := S24x1536x256) (k0_off17 k) S1x128x256.size h17).emb x) := by
  rw [pay_x7, readAt2, readAt2]
  unfold XT
  simp only [off1_eq, off16_eq, off17_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 8's columns of the widened operand, at an entry. -/
theorem pay_x8 (a : Vec Ideal S256x12 .f32) (b : Vec Ideal S256x128 .fp8e4m3) (y : S1x128x256.Idx) :
    (k0_pay23 (k0_pay22 (k0_pay10 a) b)) y
      = (b (Idealize.ShloMosaic.ix2 (y 2) (y 1)) : EReal) * a (Idealize.ShloMosaic.ix2 (y 2) 8) := by
  pointwise [k0_pay10, k0_pay22, k0_pay23]

/-- What a trip stores at block 8 is the widened operand there. -/
theorem piece_x8 (h2 h3 h17) (x : S1x128x256.Idx) :
    (k0_pay23 (k0_pay22 (k0_pay10 (v3.readAt (Elt Ideal) (Rect.unit (s := S6144x12) (k0_off1 k) S256x12.size h3).toLoadRect X3)) (v2.readAt (Elt Ideal) (Rect.unit (s := S6144x1536) (k0_off18 k) S256x128.size h2).toLoadRect X2)) : FVec Ideal S1x128x256 .bf16) x
      = XT (v2.read (Elt Ideal) X2) (v3.read (Elt Ideal) X3) ((Rect.unit (s := S24x1536x256) (k0_off19 k) S1x128x256.size h17).emb x) := by
  rw [pay_x8, readAt2, readAt2]
  unfold XT
  simp only [off1_eq, off18_eq, off19_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 9's columns of the widened operand, at an entry. -/
theorem pay_x9 (a : Vec Ideal S256x12 .f32) (b : Vec Ideal S256x128 .fp8e4m3) (y : S1x128x256.Idx) :
    (k0_pay24 (k0_pay10 a) b) y
      = (b (Idealize.ShloMosaic.ix2 (y 2) (y 1)) : EReal) * a (Idealize.ShloMosaic.ix2 (y 2) 9) := by
  pointwise [k0_pay10, k0_pay24]

/-- What a trip stores at block 9 is the widened operand there. -/
theorem piece_x9 (h2 h3 h17) (x : S1x128x256.Idx) :
    (k0_pay24 (k0_pay10 (v3.readAt (Elt Ideal) (Rect.unit (s := S6144x12) (k0_off1 k) S256x12.size h3).toLoadRect X3)) (v2.readAt (Elt Ideal) (Rect.unit (s := S6144x1536) (k0_off20 k) S256x128.size h2).toLoadRect X2) : FVec Ideal S1x128x256 .bf16) x
      = XT (v2.read (Elt Ideal) X2) (v3.read (Elt Ideal) X3) ((Rect.unit (s := S24x1536x256) (k0_off21 k) S1x128x256.size h17).emb x) := by
  rw [pay_x9, readAt2, readAt2]
  unfold XT
  simp only [off1_eq, off20_eq, off21_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 10's columns of the widened operand, at an entry. -/
theorem pay_x10 (a : Vec Ideal S256x12 .f32) (b : Vec Ideal S256x128 .fp8e4m3) (y : S1x128x256.Idx) :
    (k0_pay25 (k0_pay10 a) b) y
      = (b (Idealize.ShloMosaic.ix2 (y 2) (y 1)) : EReal) * a (Idealize.ShloMosaic.ix2 (y 2) 10) := by
  pointwise [k0_pay10, k0_pay25]

/-- What a trip stores at block 10 is the widened operand there. -/
theorem piece_x10 (h2 h3 h17) (x : S1x128x256.Idx) :
    (k0_pay25 (k0_pay10 (v3.readAt (Elt Ideal) (Rect.unit (s := S6144x12) (k0_off1 k) S256x12.size h3).toLoadRect X3)) (v2.readAt (Elt Ideal) (Rect.unit (s := S6144x1536) (k0_off22 k) S256x128.size h2).toLoadRect X2) : FVec Ideal S1x128x256 .bf16) x
      = XT (v2.read (Elt Ideal) X2) (v3.read (Elt Ideal) X3) ((Rect.unit (s := S24x1536x256) (k0_off23 k) S1x128x256.size h17).emb x) := by
  rw [pay_x10, readAt2, readAt2]
  unfold XT
  simp only [off1_eq, off22_eq, off23_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

/-- Block 11's columns of the widened operand, at an entry. -/
theorem pay_x11 (a : Vec Ideal S256x12 .f32) (b : Vec Ideal S256x128 .fp8e4m3) (y : S1x128x256.Idx) :
    (k0_pay1 (k0_pay26 (k0_pay10 a) b)) y
      = (b (Idealize.ShloMosaic.ix2 (y 2) (y 1)) : EReal) * a (Idealize.ShloMosaic.ix2 (y 2) 11) := by
  pointwise [k0_pay1, k0_pay10, k0_pay26]

/-- What a trip stores at block 11 is the widened operand there. -/
theorem piece_x11 (h2 h3 h17) (x : S1x128x256.Idx) :
    (k0_pay1 (k0_pay26 (k0_pay10 (v3.readAt (Elt Ideal) (Rect.unit (s := S6144x12) (k0_off1 k) S256x12.size h3).toLoadRect X3)) (v2.readAt (Elt Ideal) (Rect.unit (s := S6144x1536) (k0_off24 k) S256x128.size h2).toLoadRect X2)) : FVec Ideal S1x128x256 .bf16) x
      = XT (v2.read (Elt Ideal) X2) (v3.read (Elt Ideal) X3) ((Rect.unit (s := S24x1536x256) (k0_off25 k) S1x128x256.size h17).emb x) := by
  rw [pay_x11, readAt2, readAt2]
  unfold XT
  simp only [off1_eq, off24_eq, off25_eq, Rect.emb_apply]
  have h0 : (x 0).val < 1 := (x 0).isLt
  have h1 : (x 1).val < 128 := (x 1).isLt
  have h2 : (x 2).val < 256 := (x 2).isLt
  refine congrArg₂ (fun a b : EReal => a * b) (congrArg₂ (at2 (α := EReal) (v2.read (Elt Ideal) X2)) ?_ ?_) (congrArg₂ (at2 (α := EReal) (v3.read (Elt Ideal) X3)) ?_ ?_) <;> simp <;> omega

end One

/-- Column block 0 of a tile of the widened gradients, at an entry. -/
theorem pay_dy0 (arg0 : BitVec 32) (a : Vec Ideal S256x32 .f32) (b : Vec Ideal S256x128 .fp8e5m2) (y : S256x128.Idx) :
    (k0_pay28 arg0 a b) y
      = (b y : EReal) * (if h : laneOf (blk arg0 0) < 32 then a (Idealize.ShloMosaic.ix2 (y 0) ⟨laneOf (blk arg0 0), h⟩) else 0) := by
  pointwise [k0_pay28, k0_pay27, k0_pay2, k0_pay29]
  rfl

/-- What a trip stores at column block 0 is the widened gradients there. -/
theorem piece_dy0 (arg0 : BitVec 32) (v4 : View sig .tc .vmem S6144x256 .fp8e5m2) (X4 : v4.ty.Contents (Elt Ideal))
    (v5 : View sig .tc .vmem S6144x32 .f32) (X5 : v5.ty.Contents (Elt Ideal)) (k : Fin k0_t2_loop.trips) (h4 h5 h18) (x : S256x128.Idx) :
    (k0_pay28 arg0 (v5.readAt (Elt Ideal) (Rect.unit (s := S6144x32) (k0_off26 k) S256x32.size h5).toLoadRect X5) (v4.readAt (Elt Ideal) (Rect.unit (s := S6144x256) (k0_off27 k) S256x128.size h4).toLoadRect X4) : FVec Ideal S256x128 .bf16) x
      = DYB arg0 (v4.read (Elt Ideal) X4) (v5.read (Elt Ideal) X5) ((Rect.unit (s := S6144x256) (k0_off27 k) S256x128.size h18).emb x) := by
  have h0 : (x 0).val < 256 := (x 0).isLt
  have h1 : (x 1).val < 128 := (x 1).isLt
  rw [pay_dy0, readAt2]
  unfold DYB
  refine congrArg₂ (fun a b : EReal => a * b) ?_ ?_
  · simp only [off27_eq, Rect.emb_apply]
    refine congrArg₂ (at2 (α := EReal) (v4.read (Elt Ideal) X4)) ?_ ?_ <;> simp
  · have hA : ∀ y : (⟨2, ![256, 32]⟩ : Shape).Idx, (v5.readAt (Elt Ideal) (Rect.unit (s := S6144x32) (k0_off26 k) S256x32.size h5).toLoadRect X5) y
        = at2 (v5.read (Elt Ideal) X5) (256 * k.val + (y 0).val) (y 1).val := fun y =>
      (load2 v5 X5 (off26_eq k) h5 y).trans (congrArg (at2 (v5.read (Elt Ideal) X5) _) (Nat.zero_add _))
    refine (pad_read _ (v5.read (Elt Ideal) X5) (256 * k.val) hA (x 0) _).trans ?_
    · simp only [off27_eq, Rect.emb_apply]
      refine congrArg₂ (padAt (v5.read (Elt Ideal) X5)) ?_ (congrArg laneOf (congrArg (blk arg0) ?_)) <;> simp <;> omega

/-- Column block 1 of a tile of the widened gradients, at an entry. -/
theorem pay_dy1 (arg0 : BitVec 32) (a : Vec Ideal S256x32 .f32) (b : Vec Ideal S256x128 .fp8e5m2) (y : S256x128.Idx) :
    (k0_pay2 (k0_pay29 arg0 a b)) y
      = (b y : EReal) * (if h : laneOf (blk arg0 1) < 32 then a (Idealize.ShloMosaic.ix2 (y 0) ⟨laneOf (blk arg0 1), h⟩) else 0) := by
  pointwise [k0_pay28, k0_pay27, k0_pay2, k0_pay29]
  rfl

/-- What a trip stores at column block 1 is the widened gradients there. -/
theorem piece_dy1 (arg0 : BitVec 32) (v4 : View sig .tc .vmem S6144x256 .fp8e5m2) (X4 : v4.ty.Contents (Elt Ideal))
    (v5 : View sig .tc .vmem S6144x32 .f32) (X5 : v5.ty.Contents (Elt Ideal)) (k : Fin k0_t2_loop.trips) (h4 h5 h18) (x : S256x128.Idx) :
    (k0_pay2 (k0_pay29 arg0 (v5.readAt (Elt Ideal) (Rect.unit (s := S6144x32) (k0_off26 k) S256x32.size h5).toLoadRect X5) (v4.readAt (Elt Ideal) (Rect.unit (s := S6144x256) (k0_off28 k) S256x128.size h4).toLoadRect X4)) : FVec Ideal S256x128 .bf16) x
      = DYB arg0 (v4.read (Elt Ideal) X4) (v5.read (Elt Ideal) X5) ((Rect.unit (s := S6144x256) (k0_off28 k) S256x128.size h18).emb x) := by
  have h0 : (x 0).val < 256 := (x 0).isLt
  have h1 : (x 1).val < 128 := (x 1).isLt
  rw [pay_dy1, readAt2]
  unfold DYB
  refine congrArg₂ (fun a b : EReal => a * b) ?_ ?_
  · simp only [off28_eq, Rect.emb_apply]
    refine congrArg₂ (at2 (α := EReal) (v4.read (Elt Ideal) X4)) ?_ ?_ <;> simp
  · have hA : ∀ y : (⟨2, ![256, 32]⟩ : Shape).Idx, (v5.readAt (Elt Ideal) (Rect.unit (s := S6144x32) (k0_off26 k) S256x32.size h5).toLoadRect X5) y
        = at2 (v5.read (Elt Ideal) X5) (256 * k.val + (y 0).val) (y 1).val := fun y =>
      (load2 v5 X5 (off26_eq k) h5 y).trans (congrArg (at2 (v5.read (Elt Ideal) X5) _) (Nat.zero_add _))
    refine (pad_read _ (v5.read (Elt Ideal) X5) (256 * k.val) hA (x 0) _).trans ?_
    · simp only [off28_eq, Rect.emb_apply]
      refine congrArg₂ (padAt (v5.read (Elt Ideal) X5)) ?_ (congrArg laneOf (congrArg (blk arg0) ?_)) <;> simp <;> omega

/-- One trip's product: 256 tokens' contribution to an entry of the gradient. -/
def chunk (A : S24x1536x256.Idx → EReal) (B : S6144x256.Idx → EReal) (k i o : ℕ) : EReal :=
  ∑ l : Fin 256, at3 A k i l.val * at2 B (256 * k + l.val) o

/-- What a trip stores back is what was there plus the trip's product. -/
theorem piece_g (v17 : View sig .tc .vmem S24x1536x256 .bf16) (X17 : v17.ty.Contents (Elt Ideal))
    (v18 : View sig .tc .vmem S6144x256 .bf16) (X18 : v18.ty.Contents (Elt Ideal))
    (v19 : View sig .tc .vmem S1536x256 .f32) (f19 : v19.ty.Contents (Elt Ideal)) (k : Fin k0_t3_loop.trips) (h17 h18 h19) (x : S1536x256.Idx) :
    (k0_pay4 (v19.readAt (Elt Ideal) (Rect.unit (s := S1536x256) ![0, 0] S1536x256.size h19).toLoadRect f19)
        (v17.readAt (Elt Ideal) (Rect.unit (s := S24x1536x256) (k0_off29 k) S1x1536x256.size h17).toLoadRect X17)
        (v18.readAt (Elt Ideal) (Rect.unit (s := S6144x256) (k0_off30 k) S256x256.size h18).toLoadRect X18) : FVec Ideal S1536x256 .f32) x
      = (v19.read (Elt Ideal) f19 x : EReal) + chunk (v17.read (Elt Ideal) X17) (v18.read (Elt Ideal) X18) k.val (x 0).val (x 1).val := by
  pointwise [k0_pay4]
  unfold chunk
  refine congrArg₂ (fun a b : EReal => a + b) ?_ (Finset.sum_congr rfl fun l _ => ?_)
  · rw [readAt2]
    exact at2_eq _ x (by simp) (by simp)
  · rw [readAt2, readAt3]
    simp only [off29_eq, off30_eq]
    refine congrArg₂ (fun a b : EReal => a * b) ?_ ?_
    · refine at3_congr (α := EReal) (v17.read (Elt Ideal) X17) ?_ ?_ ?_ <;> simp
    · refine congrArg₂ (at2 (α := EReal) (v18.read (Elt Ideal) X18)) ?_ ?_ <;> simp

end Cert.KernelIdeal.Hand

end
-- ==== Proof.IPayE.lean ====
module

public import proofs.«01_k».proof.Proof.IPay

@[expose] public section

set_option maxRecDepth 16384

noncomputable section

namespace Cert.KernelIdeal.Hand

open Cert.KernelIdeal Cert.KernelIdeal.Gen
open Idealize.ShloMosaic

/-! ## The optimiser step on numbers -/

/-- The first moment's update. -/
def mS (mo g : EReal) : EReal := Ideal.ofBits FTy.f32 1063675494#32 * mo + Ideal.ofBits FTy.f32 1036831949#32 * g

/-- The second moment's update, from its root. -/
def vS (so g : EReal) : EReal := Ideal.ofBits FTy.f32 1065336439#32 * (so * so) + Ideal.ofBits FTy.f32 981668463#32 * g * g

/-- One minus a decay rate to the power of the step number, as the kernel computes it. -/
def bcS (v9 : BitVec 32) (beta : BitVec 32) : EReal :=
  1 - Ideal.exp ((FloatOps.sitofp FTy.f32 v9 : Ideal .f32) * (Scalar.log (Ideal.ofBits FTy.f32 beta : Ideal .f32) : Ideal .f32))

/-- The update of a weight from the two moments and their corrections. -/
def uS (M V b1 b2 : EReal) : EReal :=
  Ideal.div (Ideal.ofBits FTy.f32 3129152111#32 * Ideal.div M b1) (Ideal.sqrt (Ideal.div V b2) + Ideal.ofBits FTy.f32 841731191#32)

/-- The greatest magnitude in a block of 128. -/
def amaxS (f : Fin 128 → EReal) : EReal :=
  Finset.fold max (Ideal.ofBits FTy.f32 4286578688#32 : EReal) (fun x => (FloatOps.absf (F := Ideal) (φ := .f32) (f x) : Ideal .f32)) Finset.univ

/-- The scale of a block of 128: its greatest magnitude over 127, or one where that is zero. -/
def scaleS (f : Fin 128 → EReal) : EReal := if amaxS f = 0 then 1 else Ideal.div (amaxS f) (Ideal.ofBits FTy.f32 1123942400#32)

/-- The code of an entry under a scale: the quotient rounded to even and clipped. -/
def codeS (x sc : EReal) : BitVec 8 :=
  FloatOps.fptosi (F := Ideal) (φ := .f32) 8 (min (Ideal.ofBits FTy.f32 1123942400#32)
    (max (Ideal.ofBits FTy.f32 3271426048#32) (Ideal.liftRound Ideal.roundHalfEven (Ideal.div x sc))))

/-- A code widened by its scale. -/
def deqS (q : BitVec 8) (sc : EReal) : EReal := (FloatOps.sitofp FTy.f32 q : Ideal .f32) * sc

/-! ## The optimiser step on a tile of columns -/

section Tile

variable (arg0 : BitVec 32) (v9 : BitVec 32) (X6 : S1536x256.Idx → EReal) (X7 : S1536x256.Idx → BitVec 8) (X8 : S1536x32.Idx → EReal)
  (X9 : S1536x256.Idx → BitVec 8) (X10 : S1536x32.Idx → EReal) (G : S1536x256.Idx → EReal)

/-- The new first moment at row `r` and column `c` of the tile. -/
def mT (r c : ℕ) : EReal := mS (deqS (at2 X7 r c) (padAt X8 r (laneOf (blk arg0 (c / 128))))) (at2 G r c)

/-- The new second moment at row `r` and column `c` of the tile. -/
def vT (r c : ℕ) : EReal := vS (deqS (at2 X9 r c) (padAt X10 r (laneOf (blk arg0 (c / 128))))) (at2 G r c)

/-- The update at row `r` and column `c` of the tile. -/
def uT (r c : ℕ) : EReal := uS (mT arg0 X7 X8 G r c) (vT arg0 X9 X10 G r c) (bcS v9 1063675494#32) (bcS v9 1065336439#32)

/-- The new weight at row `r` and column `c` of the tile. -/
def wT (r c : ℕ) : EReal := at2 X6 r c + uT arg0 v9 X7 X8 X9 X10 G r c

end Tile

/-- The scale of the column block that holds column `c` of row `r`. -/
def scT (f : ℕ → ℕ → EReal) (r b : ℕ) : EReal := scaleS fun x => f r (128 * b + x.val)

/-- The code at row `r` and column `c`. -/
def cdT (f : ℕ → ℕ → EReal) (r c : ℕ) : BitVec 8 := codeS (f r c) (scT f r (c / 128))

/-- The root of the second moment. -/
def rtT (f : ℕ → ℕ → EReal) (r c : ℕ) : EReal := Ideal.sqrt (f r c)

/-- A row of scales after a grid point: its two blocks' scales at their lanes, the others as they were. -/
def putT (arg0 : BitVec 32) (f : ℕ → ℕ → EReal) (old : ℕ → ℕ → EReal) (r l : ℕ) : EReal :=
  Scalar.select (IntOp.cmpi CmpIPredicate.eq (BitVec.ofNat 32 l) (blk arg0 1)) (scT f r 1)
    (Scalar.select (IntOp.cmpi CmpIPredicate.eq (BitVec.ofNat 32 l) (blk arg0 0)) (scT f r 0) (old r l))

section Block

variable (arg0 : BitVec 32) (v9 : Elt Ideal .i32) (X6 : S1536x256.Idx → EReal) (X7 : S1536x256.Idx → BitVec 8) (X8 : S1536x32.Idx → EReal)
  (X9 : S1536x256.Idx → BitVec 8) (X10 : S1536x32.Idx → EReal) (G : S1536x256.Idx → EReal) (R : ℕ)
  (a c o : Vec Ideal S64x32 .f32) (g : Vec Ideal S64x128 .f32) (w : Vec Ideal S64x128 .bf16) (m s : Vec Ideal S64x128 .i8)
  (ha : ∀ y : S64x32.Idx, a y = at2 X8 (R + (y 0).val) (0 + (y 1).val))
  (hc : ∀ y : S64x32.Idx, c y = at2 X10 (R + (y 0).val) (0 + (y 1).val))

include ha in
/-- The new first moment of column block 0. -/
theorem pay_m0 (hg : ∀ y : S64x128.Idx, g y = at2 G (R + (y 0).val) (0 + (y 1).val)) (hm : ∀ y : S64x128.Idx, m y = at2 X7 (R + (y 0).val) (0 + (y 1).val)) (y : S64x128.Idx) :
    (k0_pay37 g (k0_pay34 arg0 a m)) y = mT arg0 X7 X8 G (R + (y 0).val) (0 + (y 1).val) := by
  have h1 : (y 1).val < 128 := (y 1).isLt
  have e : (k0_pay37 g (k0_pay34 arg0 a m)) y = mS (deqS (m y) (if h : laneOf (blk arg0 0) < 32 then a (Idealize.ShloMosaic.ix2 (y 0) ⟨laneOf (blk arg0 0), h⟩) else 0)) (g y) := by
    pointwise [k0_pay37, k0_pay34, k0_pay30, k0_pay49]
    rfl
  have hd : (0 + (y 1).val) / 128 = 0 := by omega
  have hA : ∀ z : (⟨2, ![64, 32]⟩ : Shape).Idx, a z = at2 X8 (R + (z 0).val) (z 1).val := fun z =>
    (ha z).trans (congrArg (at2 X8 _) (Nat.zero_add _))
  rw [e]
  unfold mT
  rw [hd]
  exact congrArg₂ mS (congrArg₂ deqS (hm y) (pad_read a X8 R hA (y 0) _)) (hg y)

include hc in
/-- The new second moment of column block 0. -/
theorem pay_v0 (hg : ∀ y : S64x128.Idx, g y = at2 G (R + (y 0).val) (0 + (y 1).val)) (hs : ∀ y : S64x128.Idx, s y = at2 X9 (R + (y 0).val) (0 + (y 1).val)) (y : S64x128.Idx) :
    (k0_pay38 (k0_pay31 c) g (k0_pay35 s) (k0_pay36 arg0)) y = vT arg0 X9 X10 G (R + (y 0).val) (0 + (y 1).val) := by
  have h1 : (y 1).val < 128 := (y 1).isLt
  have e : (k0_pay38 (k0_pay31 c) g (k0_pay35 s) (k0_pay36 arg0)) y = vS (deqS (s y) (if h : laneOf (blk arg0 0) < 32 then c (Idealize.ShloMosaic.ix2 (y 0) ⟨laneOf (blk arg0 0), h⟩) else 0)) (g y) := by
    pointwise [k0_pay38, k0_pay31, k0_pay35, k0_pay36, k0_pay50]
    rfl
  have hd : (0 + (y 1).val) / 128 = 0 := by omega
  have hA : ∀ z : (⟨2, ![64, 32]⟩ : Shape).Idx, c z = at2 X10 (R + (z 0).val) (z 1).val := fun z =>
    (hc z).trans (congrArg (at2 X10 _) (Nat.zero_add _))
  rw [e]
  unfold vT
  rw [hd]
  exact congrArg₂ vS (congrArg₂ deqS (hs y) (pad_read c X10 R hA (y 0) _)) (hg y)

include ha hc in
/-- The update of column block 0. -/
theorem pay_u0 (hg : ∀ y : S64x128.Idx, g y = at2 G (R + (y 0).val) (0 + (y 1).val)) (hm : ∀ y : S64x128.Idx, m y = at2 X7 (R + (y 0).val) (0 + (y 1).val)) (hs : ∀ y : S64x128.Idx, s y = at2 X9 (R + (y 0).val) (0 + (y 1).val)) (y : S64x128.Idx) :
    (k0_pay39 (k0_pay6 v9) (k0_pay7 v9) (k0_pay31 c) g (k0_pay34 arg0 a m) (k0_pay35 s) (k0_pay36 arg0)) y = uT arg0 v9 X7 X8 X9 X10 G (R + (y 0).val) (0 + (y 1).val) := by
  have e : (k0_pay39 (k0_pay6 v9) (k0_pay7 v9) (k0_pay31 c) g (k0_pay34 arg0 a m) (k0_pay35 s) (k0_pay36 arg0)) y = uS ((k0_pay37 g (k0_pay34 arg0 a m)) y) ((k0_pay38 (k0_pay31 c) g (k0_pay35 s) (k0_pay36 arg0)) y) (bcS v9 1063675494#32) (bcS v9 1065336439#32) := by
    pointwise [k0_pay39, k0_pay51, k0_pay6, k0_pay7, k0_pay5]
    rfl
  rw [e, pay_m0 arg0 X7 X8 G R a g m ha hg hm, pay_v0 arg0 X9 X10 G R c g s hc hg hs]
  rfl

include ha hc in
/-- The new weights of column block 0. -/
theorem pay_w0 (hg : ∀ y : S64x128.Idx, g y = at2 G (R + (y 0).val) (0 + (y 1).val)) (hm : ∀ y : S64x128.Idx, m y = at2 X7 (R + (y 0).val) (0 + (y 1).val)) (hs : ∀ y : S64x128.Idx, s y = at2 X9 (R + (y 0).val) (0 + (y 1).val)) (hw : ∀ y : S64x128.Idx, w y = at2 X6 (R + (y 0).val) (0 + (y 1).val)) (y : S64x128.Idx) :
    (k0_pay40 (k0_pay6 v9) (k0_pay7 v9) (k0_pay31 c) g (k0_pay34 arg0 a m) (k0_pay35 s) (k0_pay36 arg0) w) y = wT arg0 v9 X6 X7 X8 X9 X10 G (R + (y 0).val) (0 + (y 1).val) := by
  have e : (k0_pay40 (k0_pay6 v9) (k0_pay7 v9) (k0_pay31 c) g (k0_pay34 arg0 a m) (k0_pay35 s) (k0_pay36 arg0) w) y = (w y : EReal) + (k0_pay39 (k0_pay6 v9) (k0_pay7 v9) (k0_pay31 c) g (k0_pay34 arg0 a m) (k0_pay35 s) (k0_pay36 arg0)) y := by
    pointwise [k0_pay40, k0_pay52]
  rw [e, pay_u0 arg0 v9 X7 X8 X9 X10 G R a c g m s ha hc hg hm hs, hw]
  rfl

include ha in
/-- The first moment's scales of column block 0. -/
theorem pay_sm0 (hg : ∀ y : S64x128.Idx, g y = at2 G (R + (y 0).val) (0 + (y 1).val)) (hm : ∀ y : S64x128.Idx, m y = at2 X7 (R + (y 0).val) (0 + (y 1).val)) (z : S64x1.Idx) :
    (k0_pay41 g (k0_pay34 arg0 a m)) z = scT (mT arg0 X7 X8 G) (R + (z 0).val) 0 := by
  have e : (k0_pay41 g (k0_pay34 arg0 a m)) z = scaleS (fun x => (k0_pay37 g (k0_pay34 arg0 a m)) (Idealize.ShloMosaic.ix2 (z 0) x)) := by
    pointwise [k0_pay41, k0_pay53]
    rfl
  rw [e]
  refine congrArg scaleS (funext fun x => ?_)
  exact pay_m0 arg0 X7 X8 G R a g m ha hg hm _

include ha in
/-- The first moment's codes of column block 0. -/
theorem pay_cm0 (hg : ∀ y : S64x128.Idx, g y = at2 G (R + (y 0).val) (0 + (y 1).val)) (hm : ∀ y : S64x128.Idx, m y = at2 X7 (R + (y 0).val) (0 + (y 1).val)) (y : S64x128.Idx) :
    (k0_pay43 (k0_pay42 g (k0_pay34 arg0 a m))) y = cdT (mT arg0 X7 X8 G) (R + (y 0).val) (0 + (y 1).val) := by
  have h1 : (y 1).val < 128 := (y 1).isLt
  have hd : (0 + (y 1).val) / 128 = 0 := by omega
  have e : (k0_pay43 (k0_pay42 g (k0_pay34 arg0 a m))) y = codeS ((k0_pay37 g (k0_pay34 arg0 a m)) y) ((k0_pay41 g (k0_pay34 arg0 a m)) (Idealize.ShloMosaic.ix2 (y 0) 0)) := by
    pointwise [k0_pay43, k0_pay42, k0_pay54]
    rfl
  rw [e]
  unfold cdT
  rw [hd]
  exact congrArg₂ codeS (pay_m0 arg0 X7 X8 G R a g m ha hg hm y) (pay_sm0 arg0 X7 X8 G R a g m ha hg hm _)

include hc in
/-- The second moment's root's scales of column block 0. -/
theorem pay_sv0 (hg : ∀ y : S64x128.Idx, g y = at2 G (R + (y 0).val) (0 + (y 1).val)) (hs : ∀ y : S64x128.Idx, s y = at2 X9 (R + (y 0).val) (0 + (y 1).val)) (z : S64x1.Idx) :
    (k0_pay45 (k0_pay38 (k0_pay31 c) g (k0_pay35 s) (k0_pay36 arg0))) z = scT (rtT (vT arg0 X9 X10 G)) (R + (z 0).val) 0 := by
  have e : (k0_pay45 (k0_pay38 (k0_pay31 c) g (k0_pay35 s) (k0_pay36 arg0))) z = scaleS (fun x => Ideal.sqrt ((k0_pay38 (k0_pay31 c) g (k0_pay35 s) (k0_pay36 arg0)) (Idealize.ShloMosaic.ix2 (z 0) x))) := by
    pointwise [k0_pay45, k0_pay56, k0_pay44, k0_pay55]
    rfl
  rw [e]
  refine congrArg scaleS (funext fun x => congrArg Ideal.sqrt ?_)
  exact pay_v0 arg0 X9 X10 G R c g s hc hg hs _

include hc in
/-- The second moment's root's codes of column block 0. -/
theorem pay_cv0 (hg : ∀ y : S64x128.Idx, g y = at2 G (R + (y 0).val) (0 + (y 1).val)) (hs : ∀ y : S64x128.Idx, s y = at2 X9 (R + (y 0).val) (0 + (y 1).val)) (y : S64x128.Idx) :
    (k0_pay46 (k0_pay38 (k0_pay31 c) g (k0_pay35 s) (k0_pay36 arg0))) y = cdT (rtT (vT arg0 X9 X10 G)) (R + (y 0).val) (0 + (y 1).val) := by
  have h1 : (y 1).val < 128 := (y 1).isLt
  have hd : (0 + (y 1).val) / 128 = 0 := by omega
  have e : (k0_pay46 (k0_pay38 (k0_pay31 c) g (k0_pay35 s) (k0_pay36 arg0))) y = codeS (Ideal.sqrt ((k0_pay38 (k0_pay31 c) g (k0_pay35 s) (k0_pay36 arg0)) y)) ((k0_pay45 (k0_pay38 (k0_pay31 c) g (k0_pay35 s) (k0_pay36 arg0))) (Idealize.ShloMosaic.ix2 (y 0) 0)) := by
    pointwise [k0_pay46, k0_pay57, k0_pay44, k0_pay55]
    rfl
  rw [e]
  unfold cdT
  rw [hd]
  exact congrArg₂ codeS (congrArg Ideal.sqrt (pay_v0 arg0 X9 X10 G R c g s hc hg hs y)) (pay_sv0 arg0 X9 X10 G R c g s hc hg hs _)

include ha in
/-- The new first moment of column block 1. -/
theorem pay_m1 (hg : ∀ y : S64x128.Idx, g y = at2 G (R + (y 0).val) (128 + (y 1).val)) (hm : ∀ y : S64x128.Idx, m y = at2 X7 (R + (y 0).val) (128 + (y 1).val)) (y : S64x128.Idx) :
    (k0_pay49 (k0_pay30 a) (blk arg0 1) g m) y = mT arg0 X7 X8 G (R + (y 0).val) (128 + (y 1).val) := by
  have h1 : (y 1).val < 128 := (y 1).isLt
  have e : (k0_pay49 (k0_pay30 a) (blk arg0 1) g m) y = mS (deqS (m y) (if h : laneOf (blk arg0 1) < 32 then a (Idealize.ShloMosaic.ix2 (y 0) ⟨laneOf (blk arg0 1), h⟩) else 0)) (g y) := by
    pointwise [k0_pay37, k0_pay34, k0_pay30, k0_pay49]
    rfl
  have hd : (128 + (y 1).val) / 128 = 1 := by omega
  have hA : ∀ z : (⟨2, ![64, 32]⟩ : Shape).Idx, a z = at2 X8 (R + (z 0).val) (z 1).val := fun z =>
    (ha z).trans (congrArg (at2 X8 _) (Nat.zero_add _))
  rw [e]
  unfold mT
  rw [hd]
  exact congrArg₂ mS (congrArg₂ deqS (hm y) (pad_read a X8 R hA (y 0) _)) (hg y)

include hc in
/-- The new second moment of column block 1. -/
theorem pay_v1 (hg : ∀ y : S64x128.Idx, g y = at2 G (R + (y 0).val) (128 + (y 1).val)) (hs : ∀ y : S64x128.Idx, s y = at2 X9 (R + (y 0).val) (128 + (y 1).val)) (y : S64x128.Idx) :
    (k0_pay50 (k0_pay31 c) (blk arg0 1) g s) y = vT arg0 X9 X10 G (R + (y 0).val) (128 + (y 1).val) := by
  have h1 : (y 1).val < 128 := (y 1).isLt
  have e : (k0_pay50 (k0_pay31 c) (blk arg0 1) g s) y = vS (deqS (s y) (if h : laneOf (blk arg0 1) < 32 then c (Idealize.ShloMosaic.ix2 (y 0) ⟨laneOf (blk arg0 1), h⟩) else 0)) (g y) := by
    pointwise [k0_pay38, k0_pay31, k0_pay35, k0_pay36, k0_pay50]
    rfl
  have hd : (128 + (y 1).val) / 128 = 1 := by omega
  have hA : ∀ z : (⟨2, ![64, 32]⟩ : Shape).Idx, c z = at2 X10 (R + (z 0).val) (z 1).val := fun z =>
    (hc z).trans (congrArg (at2 X10 _) (Nat.zero_add _))
  rw [e]
  unfold vT
  rw [hd]
  exact congrArg₂ vS (congrArg₂ deqS (hs y) (pad_read c X10 R hA (y 0) _)) (hg y)

include ha hc in
/-- The update of column block 1. -/
theorem pay_u1 (hg : ∀ y : S64x128.Idx, g y = at2 G (R + (y 0).val) (128 + (y 1).val)) (hm : ∀ y : S64x128.Idx, m y = at2 X7 (R + (y 0).val) (128 + (y 1).val)) (hs : ∀ y : S64x128.Idx, s y = at2 X9 (R + (y 0).val) (128 + (y 1).val)) (y : S64x128.Idx) :
    (k0_pay51 (k0_pay6 v9) (k0_pay7 v9) (k0_pay30 a) (k0_pay31 c) (blk arg0 1) g m s) y = uT arg0 v9 X7 X8 X9 X10 G (R + (y 0).val) (128 + (y 1).val) := by
  have e : (k0_pay51 (k0_pay6 v9) (k0_pay7 v9) (k0_pay30 a) (k0_pay31 c) (blk arg0 1) g m s) y = uS ((k0_pay49 (k0_pay30 a) (blk arg0 1) g m) y) ((k0_pay50 (k0_pay31 c) (blk arg0 1) g s) y) (bcS v9 1063675494#32) (bcS v9 1065336439#32) := by
    pointwise [k0_pay39, k0_pay51, k0_pay6, k0_pay7, k0_pay5]
    rfl
  rw [e, pay_m1 arg0 X7 X8 G R a g m ha hg hm, pay_v1 arg0 X9 X10 G R c g s hc hg hs]
  rfl

include ha hc in
/-- The new weights of column block 1. -/
theorem pay_w1 (hg : ∀ y : S64x128.Idx, g y = at2 G (R + (y 0).val) (128 + (y 1).val)) (hm : ∀ y : S64x128.Idx, m y = at2 X7 (R + (y 0).val) (128 + (y 1).val)) (hs : ∀ y : S64x128.Idx, s y = at2 X9 (R + (y 0).val) (128 + (y 1).val)) (hw : ∀ y : S64x128.Idx, w y = at2 X6 (R + (y 0).val) (128 + (y 1).val)) (y : S64x128.Idx) :
    (k0_pay52 (k0_pay51 (k0_pay6 v9) (k0_pay7 v9) (k0_pay30 a) (k0_pay31 c) (blk arg0 1) g m s) w) y = wT arg0 v9 X6 X7 X8 X9 X10 G (R + (y 0).val) (128 + (y 1).val) := by
  have e : (k0_pay52 (k0_pay51 (k0_pay6 v9) (k0_pay7 v9) (k0_pay30 a) (k0_pay31 c) (blk arg0 1) g m s) w) y = (w y : EReal) + (k0_pay51 (k0_pay6 v9) (k0_pay7 v9) (k0_pay30 a) (k0_pay31 c) (blk arg0 1) g m s) y := by
    pointwise [k0_pay40, k0_pay52]
  rw [e, pay_u1 arg0 v9 X7 X8 X9 X10 G R a c g m s ha hc hg hm hs, hw]
  rfl

include ha in
/-- The first moment's scales of column block 1. -/
theorem pay_sm1 (hg : ∀ y : S64x128.Idx, g y = at2 G (R + (y 0).val) (128 + (y 1).val)) (hm : ∀ y : S64x128.Idx, m y = at2 X7 (R + (y 0).val) (128 + (y 1).val)) (z : S64x1.Idx) :
    (k0_pay53 (k0_pay49 (k0_pay30 a) (blk arg0 1) g m)) z = scT (mT arg0 X7 X8 G) (R + (z 0).val) 1 := by
  have e : (k0_pay53 (k0_pay49 (k0_pay30 a) (blk arg0 1) g m)) z = scaleS (fun x => (k0_pay49 (k0_pay30 a) (blk arg0 1) g m) (Idealize.ShloMosaic.ix2 (z 0) x)) := by
    pointwise [k0_pay41, k0_pay53]
    rfl
  rw [e]
  refine congrArg scaleS (funext fun x => ?_)
  exact pay_m1 arg0 X7 X8 G R a g m ha hg hm _

include ha in
/-- The first moment's codes of column block 1. -/
theorem pay_cm1 (hg : ∀ y : S64x128.Idx, g y = at2 G (R + (y 0).val) (128 + (y 1).val)) (hm : ∀ y : S64x128.Idx, m y = at2 X7 (R + (y 0).val) (128 + (y 1).val)) (y : S64x128.Idx) :
    (k0_pay54 (k0_pay49 (k0_pay30 a) (blk arg0 1) g m)) y = cdT (mT arg0 X7 X8 G) (R + (y 0).val) (128 + (y 1).val) := by
  have h1 : (y 1).val < 128 := (y 1).isLt
  have hd : (128 + (y 1).val) / 128 = 1 := by omega
  have e : (k0_pay54 (k0_pay49 (k0_pay30 a) (blk arg0 1) g m)) y = codeS ((k0_pay49 (k0_pay30 a) (blk arg0 1) g m) y) ((k0_pay53 (k0_pay49 (k0_pay30 a) (blk arg0 1) g m)) (Idealize.ShloMosaic.ix2 (y 0) 0)) := by
    pointwise [k0_pay43, k0_pay42, k0_pay54]
    rfl
  rw [e]
  unfold cdT
  rw [hd]
  exact congrArg₂ codeS (pay_m1 arg0 X7 X8 G R a g m ha hg hm y) (pay_sm1 arg0 X7 X8 G R a g m ha hg hm _)

include hc in
/-- The second moment's root's scales of column block 1. -/
theorem pay_sv1 (hg : ∀ y : S64x128.Idx, g y = at2 G (R + (y 0).val) (128 + (y 1).val)) (hs : ∀ y : S64x128.Idx, s y = at2 X9 (R + (y 0).val) (128 + (y 1).val)) (z : S64x1.Idx) :
    (k0_pay56 (k0_pay50 (k0_pay31 c) (blk arg0 1) g s)) z = scT (rtT (vT arg0 X9 X10 G)) (R + (z 0).val) 1 := by
  have e : (k0_pay56 (k0_pay50 (k0_pay31 c) (blk arg0 1) g s)) z = scaleS (fun x => Ideal.sqrt ((k0_pay50 (k0_pay31 c) (blk arg0 1) g s) (Idealize.ShloMosaic.ix2 (z 0) x))) := by
    pointwise [k0_pay45, k0_pay56, k0_pay44, k0_pay55]
    rfl
  rw [e]
  refine congrArg scaleS (funext fun x => congrArg Ideal.sqrt ?_)
  exact pay_v1 arg0 X9 X10 G R c g s hc hg hs _

include hc in
/-- The second moment's root's codes of column block 1. -/
theorem pay_cv1 (hg : ∀ y : S64x128.Idx, g y = at2 G (R + (y 0).val) (128 + (y 1).val)) (hs : ∀ y : S64x128.Idx, s y = at2 X9 (R + (y 0).val) (128 + (y 1).val)) (y : S64x128.Idx) :
    (k0_pay57 (k0_pay50 (k0_pay31 c) (blk arg0 1) g s)) y = cdT (rtT (vT arg0 X9 X10 G)) (R + (y 0).val) (128 + (y 1).val) := by
  have h1 : (y 1).val < 128 := (y 1).isLt
  have hd : (128 + (y 1).val) / 128 = 1 := by omega
  have e : (k0_pay57 (k0_pay50 (k0_pay31 c) (blk arg0 1) g s)) y = codeS (Ideal.sqrt ((k0_pay50 (k0_pay31 c) (blk arg0 1) g s) y)) ((k0_pay56 (k0_pay50 (k0_pay31 c) (blk arg0 1) g s)) (Idealize.ShloMosaic.ix2 (y 0) 0)) := by
    pointwise [k0_pay46, k0_pay57, k0_pay44, k0_pay55]
    rfl
  rw [e]
  unfold cdT
  rw [hd]
  exact congrArg₂ codeS (congrArg Ideal.sqrt (pay_v1 arg0 X9 X10 G R c g s hc hg hs y)) (pay_sv1 arg0 X9 X10 G R c g s hc hg hs _)

/-- A block of the rows of scales as a trip stores it: two lanes put, the others as they were. -/
theorem pay_put (f old : ℕ → ℕ → EReal) (s0 s1 : FVec Ideal S64x1 .f32)
    (h0 : ∀ z : S64x1.Idx, s0 z = scT f (R + (z 0).val) 0) (h1 : ∀ z : S64x1.Idx, s1 z = scT f (R + (z 0).val) 1)
    (ho : ∀ y : S64x32.Idx, o y = old (R + (y 0).val) (0 + (y 1).val)) (y : S64x32.Idx) :
    (k0_pay8 (iota .tc S64x32 32 [1] iota_S64x32_d1_w32) (k0_pay47 (k0_pay32 o) (iota .tc S64x32 32 [1] iota_S64x32_d1_w32) (blk arg0 0) s0) (blk arg0 1) s1) y = putT arg0 f old (R + (y 0).val) (0 + (y 1).val) := by
  have e : (k0_pay8 (iota .tc S64x32 32 [1] iota_S64x32_d1_w32) (k0_pay47 (k0_pay32 o) (iota .tc S64x32 32 [1] iota_S64x32_d1_w32) (blk arg0 0) s0) (blk arg0 1) s1) y
      = Scalar.select (IntOp.cmpi CmpIPredicate.eq (BitVec.ofNat 32 (y 1).val) (blk arg0 1)) (s1 (Idealize.ShloMosaic.ix2 (y 0) 0))
        (Scalar.select (IntOp.cmpi CmpIPredicate.eq (BitVec.ofNat 32 (y 1).val) (blk arg0 0)) (s0 (Idealize.ShloMosaic.ix2 (y 0) 0)) (o y)) := by
    pointwise [k0_pay8, k0_pay47, k0_pay32]
  rw [e, h0, h1, ho]
  unfold putT
  rw [Nat.zero_add]
  rfl

/-- The same for the second moment's. -/
theorem pay_put' (f old : ℕ → ℕ → EReal) (v : FVec Ideal S64x128 .f32) (s1 : FVec Ideal S64x1 .f32)
    (h0 : ∀ z : S64x1.Idx, k0_pay45 v z = scT f (R + (z 0).val) 0) (h1 : ∀ z : S64x1.Idx, s1 z = scT f (R + (z 0).val) 1)
    (ho : ∀ y : S64x32.Idx, o y = old (R + (y 0).val) (0 + (y 1).val)) (y : S64x32.Idx) :
    (k0_pay9 (iota .tc S64x32 32 [1] iota_S64x32_d1_w32) (k0_pay48 (k0_pay33 o) (iota .tc S64x32 32 [1] iota_S64x32_d1_w32) (blk arg0 0) v) (blk arg0 1) s1) y = putT arg0 f old (R + (y 0).val) (0 + (y 1).val) := by
  have e : (k0_pay9 (iota .tc S64x32 32 [1] iota_S64x32_d1_w32) (k0_pay48 (k0_pay33 o) (iota .tc S64x32 32 [1] iota_S64x32_d1_w32) (blk arg0 0) v) (blk arg0 1) s1) y
      = Scalar.select (IntOp.cmpi CmpIPredicate.eq (BitVec.ofNat 32 (y 1).val) (blk arg0 1)) (s1 (Idealize.ShloMosaic.ix2 (y 0) 0))
        (Scalar.select (IntOp.cmpi CmpIPredicate.eq (BitVec.ofNat 32 (y 1).val) (blk arg0 0)) (k0_pay45 v (Idealize.ShloMosaic.ix2 (y 0) 0)) (o y)) := by
    pointwise [k0_pay9, k0_pay48, k0_pay33]
  rw [e, h0, h1, ho]
  unfold putT
  rw [Nat.zero_add]
  rfl

end Block

end Cert.KernelIdeal.Hand

end
-- ==== Proof.IRun.lean ====
module

public import proofs.«01_k».proof.Proof.IPayE
public import Idealize.ShloMosaic.Lib.Tactic
public import Idealize.ShloMosaic.Lib.Pipeline.FrameBody

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

/-- The widening loop of the operand after `k` trips: its slabs `0 … k-1` hold the widened operand. -/
def inv1 (c : Dev nD) (arg2 : Memref sig .tc .vmem S6144x1536 .fp8e4m3) (arg3 : Memref sig .tc .vmem S6144x12 .f32) (arg17 : Memref sig .tc .vmem S24x1536x256 .bf16) (X2 : BufTy.Contents (Elt Ideal) arg2.view.ty) (X3 : BufTy.Contents (Elt Ideal) arg3.view.ty)  (k : ℕ) (_ : Unit) : sProp 𝕄I :=
  iprop((arg2.view.loc (c : Thread nD τ) ↦[arg2.view.set]{fullShare} X2) ∗ (arg3.view.loc (c : Thread nD τ) ↦[arg3.view.set]{fullShare} X3) ∗ (∃ f17 : BufTy.Contents (Elt Ideal) arg17.view.ty, (arg17.view.loc (c : Thread nD τ) ↦[arg17.view.set]{fullShare} f17) ∗ ⌜∀ y : S24x1536x256.Idx, (y 0).val < k → arg17.view.read (Elt Ideal) f17 y = XT (arg2.view.read (Elt Ideal) X2) (arg3.view.read (Elt Ideal) X3) y⌝))

/-- One trip of the widening loop of the operand. -/
theorem trip1 (𝒱 : Variants) (c : Dev nD) (bd : Option 𝒱.V) (E : Set ℕ) (i : grid0.Coords) (arg1 : Memref sig .tc .smem S1x1 .i32) (harg1 : arg1.IsWhole) (arg2 : Memref sig .tc .vmem S6144x1536 .fp8e4m3) (harg2 : arg2.IsWhole) (arg3 : Memref sig .tc .vmem S6144x12 .f32) (harg3 : arg3.IsWhole) (arg4 : Memref sig .tc .vmem S6144x256 .fp8e5m2) (harg4 : arg4.IsWhole) (arg5 : Memref sig .tc .vmem S6144x32 .f32) (harg5 : arg5.IsWhole) (arg6 : Memref sig .tc .vmem S1536x256 .bf16) (harg6 : arg6.IsWhole) (arg7 : Memref sig .tc .vmem S1536x256 .i8) (harg7 : arg7.IsWhole) (arg8 : Memref sig .tc .vmem S1536x32 .f32) (harg8 : arg8.IsWhole) (arg9 : Memref sig .tc .vmem S1536x256 .i8) (harg9 : arg9.IsWhole) (arg10 : Memref sig .tc .vmem S1536x32 .f32) (harg10 : arg10.IsWhole) (arg11 : Memref sig .tc .vmem S1536x256 .bf16) (harg11 : arg11.IsWhole) (arg12 : Memref sig .tc .vmem S1536x256 .f32) (harg12 : arg12.IsWhole) (arg13 : Memref sig .tc .vmem S1536x256 .i8) (harg13 : arg13.IsWhole) (arg14 : Memref sig .tc .vmem S1536x32 .f32) (harg14 : arg14.IsWhole) (arg15 : Memref sig .tc .vmem S1536x256 .i8) (harg15 : arg15.IsWhole) (arg16 : Memref sig .tc .vmem S1536x32 .f32) (harg16 : arg16.IsWhole) (arg17 : Memref sig .tc .vmem S24x1536x256 .bf16) (harg17 : arg17.IsWhole) (arg18 : Memref sig .tc .vmem S6144x256 .bf16) (harg18 : arg18.IsWhole) (arg19 : Memref sig .tc .vmem S1536x256 .f32) (harg19 : arg19.IsWhole) (k0_h1 : k0_cond1 i = 1#1) (X2 : BufTy.Contents (Elt Ideal) arg2.view.ty) (X3 : BufTy.Contents (Elt Ideal) arg3.view.ty)  (k : Fin k0_t1_loop.trips) :
    inv1 c arg2 arg3 arg17 X2 X3 k.val () ⊢ wp (M := 𝕄I) frame (wpE (defs₀ (F := Ideal)) 𝒱 (c : Thread nD τ) bd) E (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 k ()) (fun a => inv1 c arg2 arg3 arg17 X2 X3 (k.val + 1) a) := by
  have hk : k.val < 24 := Nat.lt_of_lt_of_le k.isLt k0_t1_abs.2.1
  unfold inv1
  iintro ⟨H2, H3, ⟨%f17, H17, %hf17⟩⟩
  unfold k0_t1_body
  sl_exec
  sl_step
  isplitl [H2]; · iexact H2
  isplitl [H3]; · iexact H3
  · iexists _
    isplitl [H17]; · iexact H17
    ipureintro
    intro y hy
    have y1 : (y 1).val < 1536 := (y 1).isLt
    have y2 : (y 2).val < 256 := (y 2).isLt
    refine writes_agree arg17.view f17 (XT (arg2.view.read (Elt Ideal) X2) (arg3.view.read (Elt Ideal) X3)) _ ?_ y ?_
    · refine List.forall_mem_cons.2 ⟨fun x => piece_x11 arg2.view X2 arg3.view X3 k _ _ (k0_off25_inb i k k0_h1) x, ?_⟩
      refine List.forall_mem_cons.2 ⟨fun x => piece_x10 arg2.view X2 arg3.view X3 k _ _ (k0_off23_inb i k k0_h1) x, ?_⟩
      refine List.forall_mem_cons.2 ⟨fun x => piece_x9 arg2.view X2 arg3.view X3 k _ _ (k0_off21_inb i k k0_h1) x, ?_⟩
      refine List.forall_mem_cons.2 ⟨fun x => piece_x8 arg2.view X2 arg3.view X3 k _ _ (k0_off19_inb i k k0_h1) x, ?_⟩
      refine List.forall_mem_cons.2 ⟨fun x => piece_x7 arg2.view X2 arg3.view X3 k _ _ (k0_off17_inb i k k0_h1) x, ?_⟩
      refine List.forall_mem_cons.2 ⟨fun x => piece_x6 arg2.view X2 arg3.view X3 k _ _ (k0_off15_inb i k k0_h1) x, ?_⟩
      refine List.forall_mem_cons.2 ⟨fun x => piece_x5 arg2.view X2 arg3.view X3 k _ _ (k0_off13_inb i k k0_h1) x, ?_⟩
      refine List.forall_mem_cons.2 ⟨fun x => piece_x4 arg2.view X2 arg3.view X3 k _ _ (k0_off11_inb i k k0_h1) x, ?_⟩
      refine List.forall_mem_cons.2 ⟨fun x => piece_x3 arg2.view X2 arg3.view X3 k _ _ (k0_off9_inb i k k0_h1) x, ?_⟩
      refine List.forall_mem_cons.2 ⟨fun x => piece_x2 arg2.view X2 arg3.view X3 k _ _ (k0_off7_inb i k k0_h1) x, ?_⟩
      refine List.forall_mem_cons.2 ⟨fun x => piece_x1 arg2.view X2 arg3.view X3 k _ _ (k0_off5_inb i k k0_h1) x, ?_⟩
      refine List.forall_mem_cons.2 ⟨fun x => piece_x0 arg2.view X2 arg3.view X3 k _ _ (k0_off3_inb i k k0_h1) x, ?_⟩
      exact fun p hp => absurd hp (List.not_mem_nil)
    · by_cases h : (y 0).val < k.val
      · exact Or.inr (hf17 y h)
      · left
        simp only [List.exists_mem_cons_iff, mem3, off3_eq, off5_eq, off7_eq, off9_eq, off11_eq, off13_eq, off15_eq, off17_eq, off19_eq, off21_eq, off23_eq, off25_eq]
        simp
        omega

/-- The widening loop of the gradients after `k` trips: its rows before `256 * k` hold the widened gradients. -/
def inv2 (c : Dev nD) (arg4 : Memref sig .tc .vmem S6144x256 .fp8e5m2) (arg5 : Memref sig .tc .vmem S6144x32 .f32) (arg18 : Memref sig .tc .vmem S6144x256 .bf16) (X4 : BufTy.Contents (Elt Ideal) arg4.view.ty) (X5 : BufTy.Contents (Elt Ideal) arg5.view.ty) (arg0 : BitVec 32) (k : ℕ) (_ : Unit) : sProp 𝕄I :=
  iprop((arg4.view.loc (c : Thread nD τ) ↦[arg4.view.set]{fullShare} X4) ∗ (arg5.view.loc (c : Thread nD τ) ↦[arg5.view.set]{fullShare} X5) ∗ (∃ f18 : BufTy.Contents (Elt Ideal) arg18.view.ty, (arg18.view.loc (c : Thread nD τ) ↦[arg18.view.set]{fullShare} f18) ∗ ⌜∀ y : S6144x256.Idx, (y 0).val < 256 * k → arg18.view.read (Elt Ideal) f18 y = DYB arg0 (arg4.view.read (Elt Ideal) X4) (arg5.view.read (Elt Ideal) X5) y⌝))

/-- One trip of the widening loop of the gradients. -/
theorem trip2 (𝒱 : Variants) (c : Dev nD) (bd : Option 𝒱.V) (E : Set ℕ) (i : grid0.Coords) (arg1 : Memref sig .tc .smem S1x1 .i32) (harg1 : arg1.IsWhole) (arg2 : Memref sig .tc .vmem S6144x1536 .fp8e4m3) (harg2 : arg2.IsWhole) (arg3 : Memref sig .tc .vmem S6144x12 .f32) (harg3 : arg3.IsWhole) (arg4 : Memref sig .tc .vmem S6144x256 .fp8e5m2) (harg4 : arg4.IsWhole) (arg5 : Memref sig .tc .vmem S6144x32 .f32) (harg5 : arg5.IsWhole) (arg6 : Memref sig .tc .vmem S1536x256 .bf16) (harg6 : arg6.IsWhole) (arg7 : Memref sig .tc .vmem S1536x256 .i8) (harg7 : arg7.IsWhole) (arg8 : Memref sig .tc .vmem S1536x32 .f32) (harg8 : arg8.IsWhole) (arg9 : Memref sig .tc .vmem S1536x256 .i8) (harg9 : arg9.IsWhole) (arg10 : Memref sig .tc .vmem S1536x32 .f32) (harg10 : arg10.IsWhole) (arg11 : Memref sig .tc .vmem S1536x256 .bf16) (harg11 : arg11.IsWhole) (arg12 : Memref sig .tc .vmem S1536x256 .f32) (harg12 : arg12.IsWhole) (arg13 : Memref sig .tc .vmem S1536x256 .i8) (harg13 : arg13.IsWhole) (arg14 : Memref sig .tc .vmem S1536x32 .f32) (harg14 : arg14.IsWhole) (arg15 : Memref sig .tc .vmem S1536x256 .i8) (harg15 : arg15.IsWhole) (arg16 : Memref sig .tc .vmem S1536x32 .f32) (harg16 : arg16.IsWhole) (arg17 : Memref sig .tc .vmem S24x1536x256 .bf16) (harg17 : arg17.IsWhole) (arg18 : Memref sig .tc .vmem S6144x256 .bf16) (harg18 : arg18.IsWhole) (arg19 : Memref sig .tc .vmem S1536x256 .f32) (harg19 : arg19.IsWhole) (arg0 : BitVec 32) (X4 : BufTy.Contents (Elt Ideal) arg4.view.ty) (X5 : BufTy.Contents (Elt Ideal) arg5.view.ty)  (k : Fin k0_t2_loop.trips) :
    inv2 c arg4 arg5 arg18 X4 X5 arg0 k.val () ⊢ wp (M := 𝕄I) frame (wpE (defs₀ (F := Ideal)) 𝒱 (c : Thread nD τ) bd) E (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k ()) (fun a => inv2 c arg4 arg5 arg18 X4 X5 arg0 (k.val + 1) a) := by
  have hk : k.val < 24 := Nat.lt_of_lt_of_le k.isLt k0_t2_abs.2.1
  unfold inv2
  iintro ⟨H4, H5, ⟨%f18, H18, %hf18⟩⟩
  unfold k0_t2_body
  sl_exec
  sl_step
  isplitl [H4]; · iexact H4
  isplitl [H5]; · iexact H5
  · iexists _
    isplitl [H18]; · iexact H18
    ipureintro
    intro y hy
    have y1 : (y 1).val < 256 := (y 1).isLt
    refine writes_agree arg18.view f18 (DYB arg0 (arg4.view.read (Elt Ideal) X4) (arg5.view.read (Elt Ideal) X5)) _ ?_ y ?_
    · refine List.forall_mem_cons.2 ⟨fun x => piece_dy1 arg0 arg4.view X4 arg5.view X5 k _ _ (k0_off28_inb k) x, ?_⟩
      refine List.forall_mem_cons.2 ⟨fun x => piece_dy0 arg0 arg4.view X4 arg5.view X5 k _ _ (k0_off27_inb k) x, ?_⟩
      exact fun p hp => absurd hp (List.not_mem_nil)
    · by_cases h : (y 0).val < 256 * k.val
      · exact Or.inr (hf18 y h)
      · left
        simp only [List.exists_mem_cons_iff, mem2, off27_eq, off28_eq]
        simp
        omega

/-- The product loop after `k` trips: the accumulator holds the products of the first `k` slabs. -/
def inv3 (c : Dev nD) (arg17 : Memref sig .tc .vmem S24x1536x256 .bf16) (arg18 : Memref sig .tc .vmem S6144x256 .bf16) (arg19 : Memref sig .tc .vmem S1536x256 .f32) (X17 : BufTy.Contents (Elt Ideal) arg17.view.ty) (X18 : BufTy.Contents (Elt Ideal) arg18.view.ty)  (k : ℕ) (_ : Unit) : sProp 𝕄I :=
  iprop((arg17.view.loc (c : Thread nD τ) ↦[arg17.view.set]{fullShare} X17) ∗ (arg18.view.loc (c : Thread nD τ) ↦[arg18.view.set]{fullShare} X18) ∗ (∃ f19 : BufTy.Contents (Elt Ideal) arg19.view.ty, (arg19.view.loc (c : Thread nD τ) ↦[arg19.view.set]{fullShare} f19) ∗ ⌜∀ y : S1536x256.Idx, arg19.view.read (Elt Ideal) f19 y = (0 : EReal) + ∑ j : Fin k, chunk (arg17.view.read (Elt Ideal) X17) (arg18.view.read (Elt Ideal) X18) j.val (y 0).val (y 1).val⌝))

/-- One trip of the product loop. -/
theorem trip3 (𝒱 : Variants) (c : Dev nD) (bd : Option 𝒱.V) (E : Set ℕ) (i : grid0.Coords) (arg1 : Memref sig .tc .smem S1x1 .i32) (harg1 : arg1.IsWhole) (arg2 : Memref sig .tc .vmem S6144x1536 .fp8e4m3) (harg2 : arg2.IsWhole) (arg3 : Memref sig .tc .vmem S6144x12 .f32) (harg3 : arg3.IsWhole) (arg4 : Memref sig .tc .vmem S6144x256 .fp8e5m2) (harg4 : arg4.IsWhole) (arg5 : Memref sig .tc .vmem S6144x32 .f32) (harg5 : arg5.IsWhole) (arg6 : Memref sig .tc .vmem S1536x256 .bf16) (harg6 : arg6.IsWhole) (arg7 : Memref sig .tc .vmem S1536x256 .i8) (harg7 : arg7.IsWhole) (arg8 : Memref sig .tc .vmem S1536x32 .f32) (harg8 : arg8.IsWhole) (arg9 : Memref sig .tc .vmem S1536x256 .i8) (harg9 : arg9.IsWhole) (arg10 : Memref sig .tc .vmem S1536x32 .f32) (harg10 : arg10.IsWhole) (arg11 : Memref sig .tc .vmem S1536x256 .bf16) (harg11 : arg11.IsWhole) (arg12 : Memref sig .tc .vmem S1536x256 .f32) (harg12 : arg12.IsWhole) (arg13 : Memref sig .tc .vmem S1536x256 .i8) (harg13 : arg13.IsWhole) (arg14 : Memref sig .tc .vmem S1536x32 .f32) (harg14 : arg14.IsWhole) (arg15 : Memref sig .tc .vmem S1536x256 .i8) (harg15 : arg15.IsWhole) (arg16 : Memref sig .tc .vmem S1536x32 .f32) (harg16 : arg16.IsWhole) (arg17 : Memref sig .tc .vmem S24x1536x256 .bf16) (harg17 : arg17.IsWhole) (arg18 : Memref sig .tc .vmem S6144x256 .bf16) (harg18 : arg18.IsWhole) (arg19 : Memref sig .tc .vmem S1536x256 .f32) (harg19 : arg19.IsWhole) (X17 : BufTy.Contents (Elt Ideal) arg17.view.ty) (X18 : BufTy.Contents (Elt Ideal) arg18.view.ty)  (k : Fin k0_t3_loop.trips) :
    inv3 c arg17 arg18 arg19 X17 X18 k.val () ⊢ wp (M := 𝕄I) frame (wpE (defs₀ (F := Ideal)) 𝒱 (c : Thread nD τ) bd) E (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  k ()) (fun a => inv3 c arg17 arg18 arg19 X17 X18 (k.val + 1) a) := by
  have hk : k.val < 24 := Nat.lt_of_lt_of_le k.isLt k0_t3_abs.2.1
  unfold inv3
  iintro ⟨H17, H18, ⟨%f19, H19, %hf19⟩⟩
  unfold k0_t3_body
  sl_exec
  sl_step
  isplitl [H17]; · iexact H17
  isplitl [H18]; · iexact H18
  · iexists _
    isplitl [H19]; · iexact H19
    ipureintro
    intro y
    have y0 : (y 0).val < 1536 := (y 0).isLt
    have y1 : (y 1).val < 256 := (y 1).isLt
    refine (writes_agree arg19.view f19 (fun y => (arg19.view.read (Elt Ideal) f19 y : EReal) + chunk (arg17.view.read (Elt Ideal) X17) (arg18.view.read (Elt Ideal) X18) k.val (y 0).val (y 1).val) _ ?_ y ?_).trans ?_
    · refine List.forall_mem_cons.2 ⟨fun x => (piece_g arg17.view X17 arg18.view X18 arg19.view f19 k _ _ _ x).trans ?_, ?_⟩
      · have e : (Rect.unit (s := S1536x256) ![0, 0] S1536x256.size inb_S1536x256_S1536x256_0_0).emb x = x := by
          refine funext fun a => Fin.ext ?_
          fin_cases a <;> simp [Rect.emb_apply]
        rw [e]
      · exact fun p hp => absurd hp (List.not_mem_nil)
    · left
      simp only [List.exists_mem_cons_iff, mem2]
      simp
      omega
    · rw [hf19 y, Fin.sum_univ_castSucc, add_assoc]
      rfl

end Cert.KernelIdeal.Hand

end
-- ==== Proof.IRunO.lean ====
module

public import proofs.«01_k».proof.Proof.IRun
public import Idealize.ShloMosaic.Lib.Tactic
public import Idealize.ShloMosaic.Lib.Pipeline.FrameBody

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

/-- The optimiser's loop after `k` trips: the rows before `64 * k` of the results hold the step's values, the rows of scales after those are as they were. -/
def inv4 (c : Dev nD) (arg6 : Memref sig .tc .vmem S1536x256 .bf16) (arg7 : Memref sig .tc .vmem S1536x256 .i8) (arg8 : Memref sig .tc .vmem S1536x32 .f32) (arg9 : Memref sig .tc .vmem S1536x256 .i8) (arg10 : Memref sig .tc .vmem S1536x32 .f32) (arg19 : Memref sig .tc .vmem S1536x256 .f32) (arg11 : Memref sig .tc .vmem S1536x256 .bf16) (arg12 : Memref sig .tc .vmem S1536x256 .f32) (arg13 : Memref sig .tc .vmem S1536x256 .i8) (arg14 : Memref sig .tc .vmem S1536x32 .f32) (arg15 : Memref sig .tc .vmem S1536x256 .i8) (arg16 : Memref sig .tc .vmem S1536x32 .f32) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X19 : BufTy.Contents (Elt Ideal) arg19.view.ty) (O14 : BufTy.Contents (Elt Ideal) arg14.view.ty) (O16 : BufTy.Contents (Elt Ideal) arg16.view.ty) (arg0 : BitVec 32) (v9 : Elt Ideal .i32) (k : ℕ) (_ : Unit) : sProp 𝕄I :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg19.view.loc (c : Thread nD τ) ↦[arg19.view.set]{fullShare} X19) ∗ (∃ f11 : BufTy.Contents (Elt Ideal) arg11.view.ty, (arg11.view.loc (c : Thread nD τ) ↦[arg11.view.set]{fullShare} f11) ∗ ⌜∀ y : S1536x256.Idx, (y 0).val < 64 * k → arg11.view.read (Elt Ideal) f11 y = (wT arg0 v9 (arg6.view.read (Elt Ideal) X6) (arg7.view.read (Elt Ideal) X7) (arg8.view.read (Elt Ideal) X8) (arg9.view.read (Elt Ideal) X9) (arg10.view.read (Elt Ideal) X10) (arg19.view.read (Elt Ideal) X19)) (y 0).val (y 1).val⌝) ∗ (∃ f12 : BufTy.Contents (Elt Ideal) arg12.view.ty, (arg12.view.loc (c : Thread nD τ) ↦[arg12.view.set]{fullShare} f12) ∗ ⌜∀ y : S1536x256.Idx, (y 0).val < 64 * k → arg12.view.read (Elt Ideal) f12 y = (uT arg0 v9 (arg7.view.read (Elt Ideal) X7) (arg8.view.read (Elt Ideal) X8) (arg9.view.read (Elt Ideal) X9) (arg10.view.read (Elt Ideal) X10) (arg19.view.read (Elt Ideal) X19)) (y 0).val (y 1).val⌝) ∗ (∃ f13 : BufTy.Contents (Elt Ideal) arg13.view.ty, (arg13.view.loc (c : Thread nD τ) ↦[arg13.view.set]{fullShare} f13) ∗ ⌜∀ y : S1536x256.Idx, (y 0).val < 64 * k → arg13.view.read (Elt Ideal) f13 y = (cdT (mT arg0 (arg7.view.read (Elt Ideal) X7) (arg8.view.read (Elt Ideal) X8) (arg19.view.read (Elt Ideal) X19))) (y 0).val (y 1).val⌝) ∗ (∃ f14 : BufTy.Contents (Elt Ideal) arg14.view.ty, (arg14.view.loc (c : Thread nD τ) ↦[arg14.view.set]{fullShare} f14) ∗ ⌜∀ y : S1536x32.Idx, ((y 0).val < 64 * k → arg14.view.read (Elt Ideal) f14 y = (putT arg0 (mT arg0 (arg7.view.read (Elt Ideal) X7) (arg8.view.read (Elt Ideal) X8) (arg19.view.read (Elt Ideal) X19)) (at2 (α := EReal) (arg14.view.read (Elt Ideal) O14))) (y 0).val (y 1).val) ∧ (64 * k ≤ (y 0).val → arg14.view.read (Elt Ideal) f14 y = (arg14.view.read (Elt Ideal) O14) y)⌝) ∗ (∃ f15 : BufTy.Contents (Elt Ideal) arg15.view.ty, (arg15.view.loc (c : Thread nD τ) ↦[arg15.view.set]{fullShare} f15) ∗ ⌜∀ y : S1536x256.Idx, (y 0).val < 64 * k → arg15.view.read (Elt Ideal) f15 y = (cdT (rtT (vT arg0 (arg9.view.read (Elt Ideal) X9) (arg10.view.read (Elt Ideal) X10) (arg19.view.read (Elt Ideal) X19)))) (y 0).val (y 1).val⌝) ∗ (∃ f16 : BufTy.Contents (Elt Ideal) arg16.view.ty, (arg16.view.loc (c : Thread nD τ) ↦[arg16.view.set]{fullShare} f16) ∗ ⌜∀ y : S1536x32.Idx, ((y 0).val < 64 * k → arg16.view.read (Elt Ideal) f16 y = (putT arg0 (rtT (vT arg0 (arg9.view.read (Elt Ideal) X9) (arg10.view.read (Elt Ideal) X10) (arg19.view.read (Elt Ideal) X19))) (at2 (α := EReal) (arg16.view.read (Elt Ideal) O16))) (y 0).val (y 1).val) ∧ (64 * k ≤ (y 0).val → arg16.view.read (Elt Ideal) f16 y = (arg16.view.read (Elt Ideal) O16) y)⌝))

/-- One trip of the optimiser's loop. -/
theorem trip4 (𝒱 : Variants) (c : Dev nD) (bd : Option 𝒱.V) (E : Set ℕ) (i : grid0.Coords) (arg1 : Memref sig .tc .smem S1x1 .i32) (harg1 : arg1.IsWhole) (arg2 : Memref sig .tc .vmem S6144x1536 .fp8e4m3) (harg2 : arg2.IsWhole) (arg3 : Memref sig .tc .vmem S6144x12 .f32) (harg3 : arg3.IsWhole) (arg4 : Memref sig .tc .vmem S6144x256 .fp8e5m2) (harg4 : arg4.IsWhole) (arg5 : Memref sig .tc .vmem S6144x32 .f32) (harg5 : arg5.IsWhole) (arg6 : Memref sig .tc .vmem S1536x256 .bf16) (harg6 : arg6.IsWhole) (arg7 : Memref sig .tc .vmem S1536x256 .i8) (harg7 : arg7.IsWhole) (arg8 : Memref sig .tc .vmem S1536x32 .f32) (harg8 : arg8.IsWhole) (arg9 : Memref sig .tc .vmem S1536x256 .i8) (harg9 : arg9.IsWhole) (arg10 : Memref sig .tc .vmem S1536x32 .f32) (harg10 : arg10.IsWhole) (arg11 : Memref sig .tc .vmem S1536x256 .bf16) (harg11 : arg11.IsWhole) (arg12 : Memref sig .tc .vmem S1536x256 .f32) (harg12 : arg12.IsWhole) (arg13 : Memref sig .tc .vmem S1536x256 .i8) (harg13 : arg13.IsWhole) (arg14 : Memref sig .tc .vmem S1536x32 .f32) (harg14 : arg14.IsWhole) (arg15 : Memref sig .tc .vmem S1536x256 .i8) (harg15 : arg15.IsWhole) (arg16 : Memref sig .tc .vmem S1536x32 .f32) (harg16 : arg16.IsWhole) (arg17 : Memref sig .tc .vmem S24x1536x256 .bf16) (harg17 : arg17.IsWhole) (arg18 : Memref sig .tc .vmem S6144x256 .bf16) (harg18 : arg18.IsWhole) (arg19 : Memref sig .tc .vmem S1536x256 .f32) (harg19 : arg19.IsWhole) (arg0 : BitVec 32) (v9 : Elt Ideal .i32) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X19 : BufTy.Contents (Elt Ideal) arg19.view.ty) (O14 : BufTy.Contents (Elt Ideal) arg14.view.ty) (O16 : BufTy.Contents (Elt Ideal) arg16.view.ty) (k : Fin k0_t4_loop.trips) :
    inv4 c arg6 arg7 arg8 arg9 arg10 arg19 arg11 arg12 arg13 arg14 arg15 arg16 X6 X7 X8 X9 X10 X19 O14 O16 arg0 v9 k.val () ⊢ wp (M := 𝕄I) frame (wpE (defs₀ (F := Ideal)) 𝒱 (c : Thread nD τ) bd) E (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v9 k ()) (fun a => inv4 c arg6 arg7 arg8 arg9 arg10 arg19 arg11 arg12 arg13 arg14 arg15 arg16 X6 X7 X8 X9 X10 X19 O14 O16 arg0 v9 (k.val + 1) a) := by
  have hk : k.val < 24 := Nat.lt_of_lt_of_le k.isLt k0_t4_abs.2.1
  unfold inv4
  iintro ⟨H6, H7, H8, H9, H10, H19, ⟨%f11, H11, %hf11⟩, ⟨%f12, H12, %hf12⟩, ⟨%f13, H13, %hf13⟩, ⟨%f14, H14, %hf14⟩, ⟨%f15, H15, %hf15⟩, ⟨%f16, H16, %hf16⟩⟩
  unfold k0_t4_body
  sl_exec
  sl_step
  isplitl [H6]; · iexact H6
  isplitl [H7]; · iexact H7
  isplitl [H8]; · iexact H8
  isplitl [H9]; · iexact H9
  isplitl [H10]; · iexact H10
  isplitl [H19]; · iexact H19
  isplitl [H11]
  · iexists _
    isplitl [H11]; · iexact H11
    ipureintro
    intro y hy
    have y1 : (y 1).val < 256 := (y 1).isLt
    refine writes_agree arg11.view f11 (fun y => (wT arg0 v9 (arg6.view.read (Elt Ideal) X6) (arg7.view.read (Elt Ideal) X7) (arg8.view.read (Elt Ideal) X8) (arg9.view.read (Elt Ideal) X9) (arg10.view.read (Elt Ideal) X10) (arg19.view.read (Elt Ideal) X19)) (y 0).val (y 1).val) _ ?_ y ?_
    · refine List.forall_mem_cons.2 ⟨fun x => (pay_w1 arg0 v9 (arg6.view.read (Elt Ideal) X6) (arg7.view.read (Elt Ideal) X7) (arg8.view.read (Elt Ideal) X8) (arg9.view.read (Elt Ideal) X9) (arg10.view.read (Elt Ideal) X10) (arg19.view.read (Elt Ideal) X19) (64 * k.val) (arg8.view.readAt (Elt Ideal) (Rect.unit (s := S1536x32) (k0_off31 k) S64x32.size (k0_off31_inb k)).toLoadRect X8) (arg10.view.readAt (Elt Ideal) (Rect.unit (s := S1536x32) (k0_off31 k) S64x32.size (k0_off31_inb k)).toLoadRect X10) (arg19.view.readAt (Elt Ideal) (Rect.unit (s := S1536x256) (k0_off33 k) S64x128.size (k0_off33_inb k)).toLoadRect X19) (arg6.view.readAt (Elt Ideal) (Rect.unit (s := S1536x256) (k0_off33 k) S64x128.size (k0_off33_inb k)).toLoadRect X6) (arg7.view.readAt (Elt Ideal) (Rect.unit (s := S1536x256) (k0_off33 k) S64x128.size (k0_off33_inb k)).toLoadRect X7) (arg9.view.readAt (Elt Ideal) (Rect.unit (s := S1536x256) (k0_off33 k) S64x128.size (k0_off33_inb k)).toLoadRect X9) (load2 arg8.view X8 (off31_eq k) (k0_off31_inb k)) (load2 arg10.view X10 (off31_eq k) (k0_off31_inb k)) (load2 arg19.view X19 (off33_eq k) (k0_off33_inb k)) (load2 arg7.view X7 (off33_eq k) (k0_off33_inb k)) (load2 arg9.view X9 (off33_eq k) (k0_off33_inb k)) (load2 arg6.view X6 (off33_eq k) (k0_off33_inb k)) x).trans ?_, ?_⟩
      · refine congrArg₂ (wT arg0 v9 (arg6.view.read (Elt Ideal) X6) (arg7.view.read (Elt Ideal) X7) (arg8.view.read (Elt Ideal) X8) (arg9.view.read (Elt Ideal) X9) (arg10.view.read (Elt Ideal) X10) (arg19.view.read (Elt Ideal) X19)) ?_ ?_ <;> simp [off33_eq, Rect.emb_apply]
      refine List.forall_mem_cons.2 ⟨fun x => (pay_w0 arg0 v9 (arg6.view.read (Elt Ideal) X6) (arg7.view.read (Elt Ideal) X7) (arg8.view.read (Elt Ideal) X8) (arg9.view.read (Elt Ideal) X9) (arg10.view.read (Elt Ideal) X10) (arg19.view.read (Elt Ideal) X19) (64 * k.val) (arg8.view.readAt (Elt Ideal) (Rect.unit (s := S1536x32) (k0_off31 k) S64x32.size (k0_off31_inb k)).toLoadRect X8) (arg10.view.readAt (Elt Ideal) (Rect.unit (s := S1536x32) (k0_off31 k) S64x32.size (k0_off31_inb k)).toLoadRect X10) (arg19.view.readAt (Elt Ideal) (Rect.unit (s := S1536x256) (k0_off32 k) S64x128.size (k0_off32_inb k)).toLoadRect X19) (arg6.view.readAt (Elt Ideal) (Rect.unit (s := S1536x256) (k0_off32 k) S64x128.size (k0_off32_inb k)).toLoadRect X6) (arg7.view.readAt (Elt Ideal) (Rect.unit (s := S1536x256) (k0_off32 k) S64x128.size (k0_off32_inb k)).toLoadRect X7) (arg9.view.readAt (Elt Ideal) (Rect.unit (s := S1536x256) (k0_off32 k) S64x128.size (k0_off32_inb k)).toLoadRect X9) (load2 arg8.view X8 (off31_eq k) (k0_off31_inb k)) (load2 arg10.view X10 (off31_eq k) (k0_off31_inb k)) (load2 arg19.view X19 (off32_eq k) (k0_off32_inb k)) (load2 arg7.view X7 (off32_eq k) (k0_off32_inb k)) (load2 arg9.view X9 (off32_eq k) (k0_off32_inb k)) (load2 arg6.view X6 (off32_eq k) (k0_off32_inb k)) x).trans ?_, ?_⟩
      · refine congrArg₂ (wT arg0 v9 (arg6.view.read (Elt Ideal) X6) (arg7.view.read (Elt Ideal) X7) (arg8.view.read (Elt Ideal) X8) (arg9.view.read (Elt Ideal) X9) (arg10.view.read (Elt Ideal) X10) (arg19.view.read (Elt Ideal) X19)) ?_ ?_ <;> simp [off32_eq, Rect.emb_apply]
      exact fun p hp => absurd hp (List.not_mem_nil)
    · by_cases h : (y 0).val < 64 * k.val
      · exact Or.inr (hf11 y h)
      · left
        simp only [List.exists_mem_cons_iff, mem2, off32_eq, off33_eq]
        simp
        omega
  isplitl [H12]
  · iexists _
    isplitl [H12]; · iexact H12
    ipureintro
    intro y hy
    have y1 : (y 1).val < 256 := (y 1).isLt
    refine writes_agree arg12.view f12 (fun y => (uT arg0 v9 (arg7.view.read (Elt Ideal) X7) (arg8.view.read (Elt Ideal) X8) (arg9.view.read (Elt Ideal) X9) (arg10.view.read (Elt Ideal) X10) (arg19.view.read (Elt Ideal) X19)) (y 0).val (y 1).val) _ ?_ y ?_
    · refine List.forall_mem_cons.2 ⟨fun x => (pay_u1 arg0 v9 (arg7.view.read (Elt Ideal) X7) (arg8.view.read (Elt Ideal) X8) (arg9.view.read (Elt Ideal) X9) (arg10.view.read (Elt Ideal) X10) (arg19.view.read (Elt Ideal) X19) (64 * k.val) (arg8.view.readAt (Elt Ideal) (Rect.unit (s := S1536x32) (k0_off31 k) S64x32.size (k0_off31_inb k)).toLoadRect X8) (arg10.view.readAt (Elt Ideal) (Rect.unit (s := S1536x32) (k0_off31 k) S64x32.size (k0_off31_inb k)).toLoadRect X10) (arg19.view.readAt (Elt Ideal) (Rect.unit (s := S1536x256) (k0_off33 k) S64x128.size (k0_off33_inb k)).toLoadRect X19) (arg7.view.readAt (Elt Ideal) (Rect.unit (s := S1536x256) (k0_off33 k) S64x128.size (k0_off33_inb k)).toLoadRect X7) (arg9.view.readAt (Elt Ideal) (Rect.unit (s := S1536x256) (k0_off33 k) S64x128.size (k0_off33_inb k)).toLoadRect X9) (load2 arg8.view X8 (off31_eq k) (k0_off31_inb k)) (load2 arg10.view X10 (off31_eq k) (k0_off31_inb k)) (load2 arg19.view X19 (off33_eq k) (k0_off33_inb k)) (load2 arg7.view X7 (off33_eq k) (k0_off33_inb k)) (load2 arg9.view X9 (off33_eq k) (k0_off33_inb k)) x).trans ?_, ?_⟩
      · refine congrArg₂ (uT arg0 v9 (arg7.view.read (Elt Ideal) X7) (arg8.view.read (Elt Ideal) X8) (arg9.view.read (Elt Ideal) X9) (arg10.view.read (Elt Ideal) X10) (arg19.view.read (Elt Ideal) X19)) ?_ ?_ <;> simp [off33_eq, Rect.emb_apply]
      refine List.forall_mem_cons.2 ⟨fun x => (pay_u0 arg0 v9 (arg7.view.read (Elt Ideal) X7) (arg8.view.read (Elt Ideal) X8) (arg9.view.read (Elt Ideal) X9) (arg10.view.read (Elt Ideal) X10) (arg19.view.read (Elt Ideal) X19) (64 * k.val) (arg8.view.readAt (Elt Ideal) (Rect.unit (s := S1536x32) (k0_off31 k) S64x32.size (k0_off31_inb k)).toLoadRect X8) (arg10.view.readAt (Elt Ideal) (Rect.unit (s := S1536x32) (k0_off31 k) S64x32.size (k0_off31_inb k)).toLoadRect X10) (arg19.view.readAt (Elt Ideal) (Rect.unit (s := S1536x256) (k0_off32 k) S64x128.size (k0_off32_inb k)).toLoadRect X19) (arg7.view.readAt (Elt Ideal) (Rect.unit (s := S1536x256) (k0_off32 k) S64x128.size (k0_off32_inb k)).toLoadRect X7) (arg9.view.readAt (Elt Ideal) (Rect.unit (s := S1536x256) (k0_off32 k) S64x128.size (k0_off32_inb k)).toLoadRect X9) (load2 arg8.view X8 (off31_eq k) (k0_off31_inb k)) (load2 arg10.view X10 (off31_eq k) (k0_off31_inb k)) (load2 arg19.view X19 (off32_eq k) (k0_off32_inb k)) (load2 arg7.view X7 (off32_eq k) (k0_off32_inb k)) (load2 arg9.view X9 (off32_eq k) (k0_off32_inb k)) x).trans ?_, ?_⟩
      · refine congrArg₂ (uT arg0 v9 (arg7.view.read (Elt Ideal) X7) (arg8.view.read (Elt Ideal) X8) (arg9.view.read (Elt Ideal) X9) (arg10.view.read (Elt Ideal) X10) (arg19.view.read (Elt Ideal) X19)) ?_ ?_ <;> simp [off32_eq, Rect.emb_apply]
      exact fun p hp => absurd hp (List.not_mem_nil)
    · by_cases h : (y 0).val < 64 * k.val
      · exact Or.inr (hf12 y h)
      · left
        simp only [List.exists_mem_cons_iff, mem2, off32_eq, off33_eq]
        simp
        omega
  isplitl [H13]
  · iexists _
    isplitl [H13]; · iexact H13
    ipureintro
    intro y hy
    have y1 : (y 1).val < 256 := (y 1).isLt
    refine writes_agree arg13.view f13 (fun y => (cdT (mT arg0 (arg7.view.read (Elt Ideal) X7) (arg8.view.read (Elt Ideal) X8) (arg19.view.read (Elt Ideal) X19))) (y 0).val (y 1).val) _ ?_ y ?_
    · refine List.forall_mem_cons.2 ⟨fun x => (pay_cm1 arg0 (arg7.view.read (Elt Ideal) X7) (arg8.view.read (Elt Ideal) X8) (arg19.view.read (Elt Ideal) X19) (64 * k.val) (arg8.view.readAt (Elt Ideal) (Rect.unit (s := S1536x32) (k0_off31 k) S64x32.size (k0_off31_inb k)).toLoadRect X8) (arg19.view.readAt (Elt Ideal) (Rect.unit (s := S1536x256) (k0_off33 k) S64x128.size (k0_off33_inb k)).toLoadRect X19) (arg7.view.readAt (Elt Ideal) (Rect.unit (s := S1536x256) (k0_off33 k) S64x128.size (k0_off33_inb k)).toLoadRect X7) (load2 arg8.view X8 (off31_eq k) (k0_off31_inb k)) (load2 arg19.view X19 (off33_eq k) (k0_off33_inb k)) (load2 arg7.view X7 (off33_eq k) (k0_off33_inb k)) x).trans ?_, ?_⟩
      · refine congrArg₂ (cdT (mT arg0 (arg7.view.read (Elt Ideal) X7) (arg8.view.read (Elt Ideal) X8) (arg19.view.read (Elt Ideal) X19))) ?_ ?_ <;> simp [off33_eq, Rect.emb_apply]
      refine List.forall_mem_cons.2 ⟨fun x => (pay_cm0 arg0 (arg7.view.read (Elt Ideal) X7) (arg8.view.read (Elt Ideal) X8) (arg19.view.read (Elt Ideal) X19) (64 * k.val) (arg8.view.readAt (Elt Ideal) (Rect.unit (s := S1536x32) (k0_off31 k) S64x32.size (k0_off31_inb k)).toLoadRect X8) (arg19.view.readAt (Elt Ideal) (Rect.unit (s := S1536x256) (k0_off32 k) S64x128.size (k0_off32_inb k)).toLoadRect X19) (arg7.view.readAt (Elt Ideal) (Rect.unit (s := S1536x256) (k0_off32 k) S64x128.size (k0_off32_inb k)).toLoadRect X7) (load2 arg8.view X8 (off31_eq k) (k0_off31_inb k)) (load2 arg19.view X19 (off32_eq k) (k0_off32_inb k)) (load2 arg7.view X7 (off32_eq k) (k0_off32_inb k)) x).trans ?_, ?_⟩
      · refine congrArg₂ (cdT (mT arg0 (arg7.view.read (Elt Ideal) X7) (arg8.view.read (Elt Ideal) X8) (arg19.view.read (Elt Ideal) X19))) ?_ ?_ <;> simp [off32_eq, Rect.emb_apply]
      exact fun p hp => absurd hp (List.not_mem_nil)
    · by_cases h : (y 0).val < 64 * k.val
      · exact Or.inr (hf13 y h)
      · left
        simp only [List.exists_mem_cons_iff, mem2, off32_eq, off33_eq]
        simp
        omega
  isplitl [H14]
  · iexists _
    isplitl [H14]; · iexact H14
    ipureintro
    have ho : ∀ x : S64x32.Idx, (arg14.view.readAt (Elt Ideal) (Rect.unit (s := S1536x32) (k0_off31 k) S64x32.size (k0_off31_inb k)).toLoadRect f14) x = at2 (α := EReal) (arg14.view.read (Elt Ideal) O14) (64 * k.val + (x 0).val) (0 + (x 1).val) := fun x => by
      have x0 : (x 0).val < 64 := (x 0).isLt
      have x1 : (x 1).val < 32 := (x 1).isLt
      have e := load2 arg14.view f14 (off31_eq k) (k0_off31_inb k) x
      refine e.trans ?_
      let z : S1536x32.Idx := Idealize.ShloMosaic.ix2 ⟨64 * k.val + (x 0).val, by omega⟩ ⟨0 + (x 1).val, by omega⟩
      exact ((at2_eq (α := EReal) (arg14.view.read (Elt Ideal) f14) z rfl rfl).trans ((hf14 z).2 (Nat.le_add_right _ _))).trans (at2_eq (α := EReal) (arg14.view.read (Elt Ideal) O14) z rfl rfl).symm
    have hp := pay_put arg0 (64 * k.val) (arg14.view.readAt (Elt Ideal) (Rect.unit (s := S1536x32) (k0_off31 k) S64x32.size (k0_off31_inb k)).toLoadRect f14) (mT arg0 (arg7.view.read (Elt Ideal) X7) (arg8.view.read (Elt Ideal) X8) (arg19.view.read (Elt Ideal) X19)) (at2 (α := EReal) (arg14.view.read (Elt Ideal) O14)) _ _ (pay_sm0 arg0 (arg7.view.read (Elt Ideal) X7) (arg8.view.read (Elt Ideal) X8) (arg19.view.read (Elt Ideal) X19) (64 * k.val) (arg8.view.readAt (Elt Ideal) (Rect.unit (s := S1536x32) (k0_off31 k) S64x32.size (k0_off31_inb k)).toLoadRect X8) (arg19.view.readAt (Elt Ideal) (Rect.unit (s := S1536x256) (k0_off32 k) S64x128.size (k0_off32_inb k)).toLoadRect X19) (arg7.view.readAt (Elt Ideal) (Rect.unit (s := S1536x256) (k0_off32 k) S64x128.size (k0_off32_inb k)).toLoadRect X7) (load2 arg8.view X8 (off31_eq k) (k0_off31_inb k)) (load2 arg19.view X19 (off32_eq k) (k0_off32_inb k)) (load2 arg7.view X7 (off32_eq k) (k0_off32_inb k))) (pay_sm1 arg0 (arg7.view.read (Elt Ideal) X7) (arg8.view.read (Elt Ideal) X8) (arg19.view.read (Elt Ideal) X19) (64 * k.val) (arg8.view.readAt (Elt Ideal) (Rect.unit (s := S1536x32) (k0_off31 k) S64x32.size (k0_off31_inb k)).toLoadRect X8) (arg19.view.readAt (Elt Ideal) (Rect.unit (s := S1536x256) (k0_off33 k) S64x128.size (k0_off33_inb k)).toLoadRect X19) (arg7.view.readAt (Elt Ideal) (Rect.unit (s := S1536x256) (k0_off33 k) S64x128.size (k0_off33_inb k)).toLoadRect X7) (load2 arg8.view X8 (off31_eq k) (k0_off31_inb k)) (load2 arg19.view X19 (off33_eq k) (k0_off33_inb k)) (load2 arg7.view X7 (off33_eq k) (k0_off33_inb k))) ho
    intro y
    have y1 : (y 1).val < 32 := (y 1).isLt
    constructor
    · intro hy
      by_cases h : (y 0).val < 64 * k.val
      · refine (writes_other arg14.view f14 _ y ?_).trans ((hf14 y).1 h)
        refine List.forall_mem_cons.2 ⟨?_, fun p hp => absurd hp (List.not_mem_nil)⟩
        simp only [mem2, off31_eq]
        simp
        omega
      · refine writes_agree arg14.view f14 (fun y => (putT arg0 (mT arg0 (arg7.view.read (Elt Ideal) X7) (arg8.view.read (Elt Ideal) X8) (arg19.view.read (Elt Ideal) X19)) (at2 (α := EReal) (arg14.view.read (Elt Ideal) O14))) (y 0).val (y 1).val) _ ?_ y (Or.inl ?_)
        · refine List.forall_mem_cons.2 ⟨fun x => (hp x).trans ?_, fun p hp => absurd hp (List.not_mem_nil)⟩
          refine congrArg₂ (putT arg0 (mT arg0 (arg7.view.read (Elt Ideal) X7) (arg8.view.read (Elt Ideal) X8) (arg19.view.read (Elt Ideal) X19)) (at2 (α := EReal) (arg14.view.read (Elt Ideal) O14))) ?_ ?_ <;> simp [off31_eq, Rect.emb_apply]
        · simp only [List.exists_mem_cons_iff, mem2, off31_eq]
          simp
          omega
    · intro hy
      refine (writes_other arg14.view f14 _ y ?_).trans ((hf14 y).2 (by omega))
      refine List.forall_mem_cons.2 ⟨?_, fun p hp => absurd hp (List.not_mem_nil)⟩
      simp only [mem2, off31_eq]
      simp
      omega
  isplitl [H15]
  · iexists _
    isplitl [H15]; · iexact H15
    ipureintro
    intro y hy
    have y1 : (y 1).val < 256 := (y 1).isLt
    refine writes_agree arg15.view f15 (fun y => (cdT (rtT (vT arg0 (arg9.view.read (Elt Ideal) X9) (arg10.view.read (Elt Ideal) X10) (arg19.view.read (Elt Ideal) X19)))) (y 0).val (y 1).val) _ ?_ y ?_
    · refine List.forall_mem_cons.2 ⟨fun x => (pay_cv1 arg0 (arg9.view.read (Elt Ideal) X9) (arg10.view.read (Elt Ideal) X10) (arg19.view.read (Elt Ideal) X19) (64 * k.val) (arg10.view.readAt (Elt Ideal) (Rect.unit (s := S1536x32) (k0_off31 k) S64x32.size (k0_off31_inb k)).toLoadRect X10) (arg19.view.readAt (Elt Ideal) (Rect.unit (s := S1536x256) (k0_off33 k) S64x128.size (k0_off33_inb k)).toLoadRect X19) (arg9.view.readAt (Elt Ideal) (Rect.unit (s := S1536x256) (k0_off33 k) S64x128.size (k0_off33_inb k)).toLoadRect X9) (load2 arg10.view X10 (off31_eq k) (k0_off31_inb k)) (load2 arg19.view X19 (off33_eq k) (k0_off33_inb k)) (load2 arg9.view X9 (off33_eq k) (k0_off33_inb k)) x).trans ?_, ?_⟩
      · refine congrArg₂ (cdT (rtT (vT arg0 (arg9.view.read (Elt Ideal) X9) (arg10.view.read (Elt Ideal) X10) (arg19.view.read (Elt Ideal) X19)))) ?_ ?_ <;> simp [off33_eq, Rect.emb_apply]
      refine List.forall_mem_cons.2 ⟨fun x => (pay_cv0 arg0 (arg9.view.read (Elt Ideal) X9) (arg10.view.read (Elt Ideal) X10) (arg19.view.read (Elt Ideal) X19) (64 * k.val) (arg10.view.readAt (Elt Ideal) (Rect.unit (s := S1536x32) (k0_off31 k) S64x32.size (k0_off31_inb k)).toLoadRect X10) (arg19.view.readAt (Elt Ideal) (Rect.unit (s := S1536x256) (k0_off32 k) S64x128.size (k0_off32_inb k)).toLoadRect X19) (arg9.view.readAt (Elt Ideal) (Rect.unit (s := S1536x256) (k0_off32 k) S64x128.size (k0_off32_inb k)).toLoadRect X9) (load2 arg10.view X10 (off31_eq k) (k0_off31_inb k)) (load2 arg19.view X19 (off32_eq k) (k0_off32_inb k)) (load2 arg9.view X9 (off32_eq k) (k0_off32_inb k)) x).trans ?_, ?_⟩
      · refine congrArg₂ (cdT (rtT (vT arg0 (arg9.view.read (Elt Ideal) X9) (arg10.view.read (Elt Ideal) X10) (arg19.view.read (Elt Ideal) X19)))) ?_ ?_ <;> simp [off32_eq, Rect.emb_apply]
      exact fun p hp => absurd hp (List.not_mem_nil)
    · by_cases h : (y 0).val < 64 * k.val
      · exact Or.inr (hf15 y h)
      · left
        simp only [List.exists_mem_cons_iff, mem2, off32_eq, off33_eq]
        simp
        omega
  · iexists _
    isplitl [H16]; · iexact H16
    ipureintro
    have ho : ∀ x : S64x32.Idx, (arg16.view.readAt (Elt Ideal) (Rect.unit (s := S1536x32) (k0_off31 k) S64x32.size (k0_off31_inb k)).toLoadRect f16) x = at2 (α := EReal) (arg16.view.read (Elt Ideal) O16) (64 * k.val + (x 0).val) (0 + (x 1).val) := fun x => by
      have x0 : (x 0).val < 64 := (x 0).isLt
      have x1 : (x 1).val < 32 := (x 1).isLt
      have e := load2 arg16.view f16 (off31_eq k) (k0_off31_inb k) x
      refine e.trans ?_
      let z : S1536x32.Idx := Idealize.ShloMosaic.ix2 ⟨64 * k.val + (x 0).val, by omega⟩ ⟨0 + (x 1).val, by omega⟩
      exact ((at2_eq (α := EReal) (arg16.view.read (Elt Ideal) f16) z rfl rfl).trans ((hf16 z).2 (Nat.le_add_right _ _))).trans (at2_eq (α := EReal) (arg16.view.read (Elt Ideal) O16) z rfl rfl).symm
    have hp := pay_put' arg0 (64 * k.val) (arg16.view.readAt (Elt Ideal) (Rect.unit (s := S1536x32) (k0_off31 k) S64x32.size (k0_off31_inb k)).toLoadRect f16) (rtT (vT arg0 (arg9.view.read (Elt Ideal) X9) (arg10.view.read (Elt Ideal) X10) (arg19.view.read (Elt Ideal) X19))) (at2 (α := EReal) (arg16.view.read (Elt Ideal) O16)) _ _ (pay_sv0 arg0 (arg9.view.read (Elt Ideal) X9) (arg10.view.read (Elt Ideal) X10) (arg19.view.read (Elt Ideal) X19) (64 * k.val) (arg10.view.readAt (Elt Ideal) (Rect.unit (s := S1536x32) (k0_off31 k) S64x32.size (k0_off31_inb k)).toLoadRect X10) (arg19.view.readAt (Elt Ideal) (Rect.unit (s := S1536x256) (k0_off32 k) S64x128.size (k0_off32_inb k)).toLoadRect X19) (arg9.view.readAt (Elt Ideal) (Rect.unit (s := S1536x256) (k0_off32 k) S64x128.size (k0_off32_inb k)).toLoadRect X9) (load2 arg10.view X10 (off31_eq k) (k0_off31_inb k)) (load2 arg19.view X19 (off32_eq k) (k0_off32_inb k)) (load2 arg9.view X9 (off32_eq k) (k0_off32_inb k))) (pay_sv1 arg0 (arg9.view.read (Elt Ideal) X9) (arg10.view.read (Elt Ideal) X10) (arg19.view.read (Elt Ideal) X19) (64 * k.val) (arg10.view.readAt (Elt Ideal) (Rect.unit (s := S1536x32) (k0_off31 k) S64x32.size (k0_off31_inb k)).toLoadRect X10) (arg19.view.readAt (Elt Ideal) (Rect.unit (s := S1536x256) (k0_off33 k) S64x128.size (k0_off33_inb k)).toLoadRect X19) (arg9.view.readAt (Elt Ideal) (Rect.unit (s := S1536x256) (k0_off33 k) S64x128.size (k0_off33_inb k)).toLoadRect X9) (load2 arg10.view X10 (off31_eq k) (k0_off31_inb k)) (load2 arg19.view X19 (off33_eq k) (k0_off33_inb k)) (load2 arg9.view X9 (off33_eq k) (k0_off33_inb k))) ho
    intro y
    have y1 : (y 1).val < 32 := (y 1).isLt
    constructor
    · intro hy
      by_cases h : (y 0).val < 64 * k.val
      · refine (writes_other arg16.view f16 _ y ?_).trans ((hf16 y).1 h)
        refine List.forall_mem_cons.2 ⟨?_, fun p hp => absurd hp (List.not_mem_nil)⟩
        simp only [mem2, off31_eq]
        simp
        omega
      · refine writes_agree arg16.view f16 (fun y => (putT arg0 (rtT (vT arg0 (arg9.view.read (Elt Ideal) X9) (arg10.view.read (Elt Ideal) X10) (arg19.view.read (Elt Ideal) X19))) (at2 (α := EReal) (arg16.view.read (Elt Ideal) O16))) (y 0).val (y 1).val) _ ?_ y (Or.inl ?_)
        · refine List.forall_mem_cons.2 ⟨fun x => (hp x).trans ?_, fun p hp => absurd hp (List.not_mem_nil)⟩
          refine congrArg₂ (putT arg0 (rtT (vT arg0 (arg9.view.read (Elt Ideal) X9) (arg10.view.read (Elt Ideal) X10) (arg19.view.read (Elt Ideal) X19))) (at2 (α := EReal) (arg16.view.read (Elt Ideal) O16))) ?_ ?_ <;> simp [off31_eq, Rect.emb_apply]
        · simp only [List.exists_mem_cons_iff, mem2, off31_eq]
          simp
          omega
    · intro hy
      refine (writes_other arg16.view f16 _ y ?_).trans ((hf16 y).2 (by omega))
      refine List.forall_mem_cons.2 ⟨?_, fun p hp => absurd hp (List.not_mem_nil)⟩
      simp only [mem2, off31_eq]
      simp
      omega

end Cert.KernelIdeal.Hand

end
-- ==== Proof.IRunP.lean ====
module

public import proofs.«01_k».proof.Proof.IRunO
public import Idealize.ShloMosaic.Lib.Tactic
public import Idealize.ShloMosaic.Lib.Pipeline.FrameBody

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄I" => MT nD τ sig Unit (Elt Ideal) ℕ (UR sig nD τ) ℕ

/-! ## What a grid point leaves -/

section Spec

variable (arg0 : BitVec 32) (x0 : Vec Ideal S1x1 .i32) (x1 : Vec Ideal S6144x1536 .fp8e4m3) (x2 : Vec Ideal S6144x12 .f32) (x3 : Vec Ideal S6144x256 .fp8e5m2)
  (x4 : Vec Ideal S6144x32 .f32) (x5 : Vec Ideal S1536x256 .bf16) (x6 : Vec Ideal S1536x256 .i8) (x7 : Vec Ideal S1536x32 .f32) (x8 : Vec Ideal S1536x256 .i8) (x9 : Vec Ideal S1536x32 .f32)
  (o : Vec Ideal S1536x32 .f32)

/-- A tile of the gradient: the products of all slabs. -/
def GT : S1536x256.Idx → EReal := fun y =>
  (0 : EReal) + ∑ j : Fin 24, chunk (XT x1 x2) (DYB arg0 x3 x4) j.val (y 0).val (y 1).val

/-- The step number the kernel reads. -/
def stepOf : BitVec 32 := x0 (Idealize.ShloMosaic.ix2 0 0)

/-- A tile of the new weights. -/
def TW : Vec Ideal S1536x256 .bf16 := fun y => wT arg0 (stepOf x0) x5 x6 x7 x8 x9 (GT arg0 x1 x2 x3 x4) (y 0).val (y 1).val

/-- A tile of the updates. -/
def TU : Vec Ideal S1536x256 .f32 := fun y => uT arg0 (stepOf x0) x6 x7 x8 x9 (GT arg0 x1 x2 x3 x4) (y 0).val (y 1).val

/-- A tile of the first moment's codes. -/
def TM : Vec Ideal S1536x256 .i8 := fun y => cdT (mT arg0 x6 x7 (GT arg0 x1 x2 x3 x4)) (y 0).val (y 1).val

/-- A tile of the second moment's codes. -/
def TS : Vec Ideal S1536x256 .i8 := fun y => cdT (rtT (vT arg0 x8 x9 (GT arg0 x1 x2 x3 x4))) (y 0).val (y 1).val

/-- The first moment's scales after the point. -/
def TMS : Vec Ideal S1536x32 .f32 := fun y => putT arg0 (mT arg0 x6 x7 (GT arg0 x1 x2 x3 x4)) (at2 (α := EReal) o) (y 0).val (y 1).val

/-- The second moment's scales after the point. -/
def TSS : Vec Ideal S1536x32 .f32 := fun y => putT arg0 (rtT (vT arg0 x8 x9 (GT arg0 x1 x2 x3 x4))) (at2 (α := EReal) o) (y 0).val (y 1).val

end Spec

/-- The accumulator after it is cleared is zero everywhere. -/
theorem acc0 (arg19 : Memref sig .tc .vmem S1536x256 .f32) (f19 : BufTy.Contents (Elt Ideal) arg19.view.ty) (y : S1536x256.Idx) :
    arg19.view.read (Elt Ideal) (arg19.view.writes (Elt Ideal) f19 [⟨Rect.unit (s := S1536x256) ![0, 0] S1536x256.size inb_S1536x256_S1536x256_0_0, k0_pay3 (F := Ideal)⟩]) y
      = (0 : EReal) := by
  have y0 : (y 0).val < 1536 := (y 0).isLt
  have y1 : (y 1).val < 256 := (y 1).isLt
  refine (writes_agree arg19.view f19 (fun _ => (0 : EReal)) _ ?_ y (Or.inl ?_))
  · refine List.forall_mem_cons.2 ⟨fun x => ?_, fun p hp => absurd hp (List.not_mem_nil)⟩
    show (k0_pay3 (F := Ideal)) x = (0 : EReal)
    pointwise [k0_pay3]
  · simp only [List.exists_mem_cons_iff, mem2]
    simp
    omega

section Of

variable {arg0 : BitVec 32} {x0 : Vec Ideal S1x1 .i32} {x1 : Vec Ideal S6144x1536 .fp8e4m3} {x2 : Vec Ideal S6144x12 .f32} {x3 : Vec Ideal S6144x256 .fp8e5m2}
  {x4 : Vec Ideal S6144x32 .f32} {x5 : Vec Ideal S1536x256 .bf16} {x6 : Vec Ideal S1536x256 .i8} {x7 : Vec Ideal S1536x32 .f32} {x8 : Vec Ideal S1536x256 .i8} {x9 : Vec Ideal S1536x32 .f32}
  {o : Vec Ideal S1536x32 .f32} {G : S1536x256.Idx → EReal} (hG : G = GT arg0 x1 x2 x3 x4)

include hG in
/-- Contents that hold the step's values for the tile of the gradient are the tile `TW`. -/
theorem TW_of {f : Vec Ideal S1536x256 .bf16} (h : ∀ y, f y = wT arg0 (stepOf x0) x5 x6 x7 x8 x9 G (y 0).val (y 1).val) : f = TW arg0 x0 x1 x2 x3 x4 x5 x6 x7 x8 x9 := by
  subst hG
  exact funext h

include hG in
/-- Contents that hold the step's values for the tile of the gradient are the tile `TU`. -/
theorem TU_of {f : Vec Ideal S1536x256 .f32} (h : ∀ y, f y = uT arg0 (stepOf x0) x6 x7 x8 x9 G (y 0).val (y 1).val) : f = TU arg0 x0 x1 x2 x3 x4 x6 x7 x8 x9 := by
  subst hG
  exact funext h

include hG in
/-- Contents that hold the step's values for the tile of the gradient are the tile `TM`. -/
theorem TM_of {f : Vec Ideal S1536x256 .i8} (h : ∀ y, f y = cdT (mT arg0 x6 x7 G) (y 0).val (y 1).val) : f = TM arg0 x1 x2 x3 x4 x6 x7 := by
  subst hG
  exact funext h

include hG in
/-- Contents that hold the step's values for the tile of the gradient are the tile `TS`. -/
theorem TS_of {f : Vec Ideal S1536x256 .i8} (h : ∀ y, f y = cdT (rtT (vT arg0 x8 x9 G)) (y 0).val (y 1).val) : f = TS arg0 x1 x2 x3 x4 x8 x9 := by
  subst hG
  exact funext h

include hG in
/-- Contents that hold the step's values for the tile of the gradient are the tile `TMS`. -/
theorem TMS_of {f : Vec Ideal S1536x32 .f32} (h : ∀ y, f y = putT arg0 (mT arg0 x6 x7 G) (at2 (α := EReal) o) (y 0).val (y 1).val) : f = TMS arg0 x1 x2 x3 x4 x6 x7 o := by
  subst hG
  exact funext h

include hG in
/-- Contents that hold the step's values for the tile of the gradient are the tile `TSS`. -/
theorem TSS_of {f : Vec Ideal S1536x32 .f32} (h : ∀ y, f y = putT arg0 (rtT (vT arg0 x8 x9 G)) (at2 (α := EReal) o) (y 0).val (y 1).val) : f = TSS arg0 x1 x2 x3 x4 x8 x9 o := by
  subst hG
  exact funext h

end Of

/-- No product has been added before the first trip. -/
theorem zero_sum (f : Fin 0 → EReal) : (0 : EReal) = 0 + ∑ j : Fin 0, f j := by simp

/-- The step number as the run reads it. -/
theorem step_read' (arg1 : Memref sig .tc .smem S1x1 .i32) (harg1 : arg1.IsWhole) (f1 : BufTy.Contents (Elt Ideal) arg1.view.ty) (v : BitVec 32) {h}
    (hv : v = arg1.view.readAt (Elt Ideal) (Rect.unit ![0, 0] S1x1.size inb_S1x1_S1x1_0_0).toLoadRect f1 (Shape.Idx.first h)) :
    v = stepOf (arg1.view.read (Elt Ideal) f1) := by
  rw [hv]
  refine (load2 arg1.view f1 (R := 0) (C := 0) rfl inb_S1x1_S1x1_0_0 _).trans ?_
  unfold stepOf
  exact at2_eq (α := BitVec 32) _ _ (by simp [Shape.Idx.first]) (by simp [Shape.Idx.first])

/-- Every row of the gradients' scratch is written. -/
theorem lt_rows2 (y : S6144x256.Idx) : (y 0).val < 256 * k0_t2_loop.trips := by
  have h : (y 0).val < 6144 := (y 0).isLt
  have e : k0_t2_loop.trips = 24 := by decide
  omega

/-- Every slab of the operand's scratch is written. -/
theorem lt_rows1 (y : S24x1536x256.Idx) : (y 0).val < k0_t1_loop.trips := by
  have h : (y 0).val < 24 := (y 0).isLt
  have e : k0_t1_loop.trips = 24 := by decide
  omega

/-- Every row of a tile is written. -/
theorem lt_rowsT (y : S1536x256.Idx) : (y 0).val < 64 * k0_t4_loop.trips := by
  have h : (y 0).val < 1536 := (y 0).isLt
  have e : k0_t4_loop.trips = 24 := by decide
  omega

/-- Every row of scales is written. -/
theorem lt_rowsS (y : S1536x32.Idx) : (y 0).val < 64 * k0_t4_loop.trips := by
  have h : (y 0).val < 1536 := (y 0).isLt
  have e : k0_t4_loop.trips = 24 := by decide
  omega

/-- The accumulator after the product loop is the tile of the gradient. -/
theorem grad_eq (arg0 : BitVec 32) (x1 : Vec Ideal S6144x1536 .fp8e4m3) (x2 : Vec Ideal S6144x12 .f32) (x3 : Vec Ideal S6144x256 .fp8e5m2) (x4 : Vec Ideal S6144x32 .f32)
    (a : S24x1536x256.Idx → EReal) (b : S6144x256.Idx → EReal) (g : S1536x256.Idx → EReal) (ha : a = XT x1 x2) (hb : b = DYB arg0 x3 x4)
    (hg : ∀ y : S1536x256.Idx, g y = (0 : EReal) + ∑ j : Fin k0_t3_loop.trips, chunk a b j.val (y 0).val (y 1).val) : g = GT arg0 x1 x2 x3 x4 := by
  subst ha hb
  funext y
  rw [hg y]
  unfold GT
  rw [show k0_t3_loop.trips = 24 by decide]

/-- A run of the body at the first grid point, which widens the operand. -/
theorem kernel_val0 (c : Dev nD) (i : grid0.Coords) (hc : k0_cond1 i = 1#1) (arg1 : Memref sig .tc .smem S1x1 .i32) (harg1 : arg1.IsWhole) (arg2 : Memref sig .tc .vmem S6144x1536 .fp8e4m3) (harg2 : arg2.IsWhole) (arg3 : Memref sig .tc .vmem S6144x12 .f32) (harg3 : arg3.IsWhole) (arg4 : Memref sig .tc .vmem S6144x256 .fp8e5m2) (harg4 : arg4.IsWhole) (arg5 : Memref sig .tc .vmem S6144x32 .f32) (harg5 : arg5.IsWhole) (arg6 : Memref sig .tc .vmem S1536x256 .bf16) (harg6 : arg6.IsWhole) (arg7 : Memref sig .tc .vmem S1536x256 .i8) (harg7 : arg7.IsWhole) (arg8 : Memref sig .tc .vmem S1536x32 .f32) (harg8 : arg8.IsWhole) (arg9 : Memref sig .tc .vmem S1536x256 .i8) (harg9 : arg9.IsWhole) (arg10 : Memref sig .tc .vmem S1536x32 .f32) (harg10 : arg10.IsWhole) (arg11 : Memref sig .tc .vmem S1536x256 .bf16) (harg11 : arg11.IsWhole) (arg12 : Memref sig .tc .vmem S1536x256 .f32) (harg12 : arg12.IsWhole) (arg13 : Memref sig .tc .vmem S1536x256 .i8) (harg13 : arg13.IsWhole) (arg14 : Memref sig .tc .vmem S1536x32 .f32) (harg14 : arg14.IsWhole) (arg15 : Memref sig .tc .vmem S1536x256 .i8) (harg15 : arg15.IsWhole) (arg16 : Memref sig .tc .vmem S1536x32 .f32) (harg16 : arg16.IsWhole) (arg17 : Memref sig .tc .vmem S24x1536x256 .bf16) (harg17 : arg17.IsWhole) (arg18 : Memref sig .tc .vmem S6144x256 .bf16) (harg18 : arg18.IsWhole) (arg19 : Memref sig .tc .vmem S1536x256 .f32) (harg19 : arg19.IsWhole) (x0 : Vec Ideal S1x1 .i32) (x1 : Vec Ideal S6144x1536 .fp8e4m3) (x2 : Vec Ideal S6144x12 .f32) (x3 : Vec Ideal S6144x256 .fp8e5m2) (x4 : Vec Ideal S6144x32 .f32) (x5 : Vec Ideal S1536x256 .bf16) (x6 : Vec Ideal S1536x256 .i8) (x7 : Vec Ideal S1536x32 .f32) (x8 : Vec Ideal S1536x256 .i8) (x9 : Vec Ideal S1536x32 .f32) (o14 o16 : Vec Ideal S1536x32 .f32) (E : Set ℕ) (K : PUnit → sProp 𝕄I) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare o14 ∗ (∃ d, owns (c : Thread nD τ) arg15 fullShare d) ∗ owns (c : Thread nD τ) arg16 fullShare o16 ∗ (∃ d, owns (c : Thread nD τ) arg17 fullShare d) ∗ (∃ d, owns (c : Thread nD τ) arg18 fullShare d) ∗ (∃ d, owns (c : Thread nD τ) arg19 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (TW (BitVec.ofNat 32 (i 0).val) x0 x1 x2 x3 x4 x5 x6 x7 x8 x9) ∗ owns (c : Thread nD τ) arg12 fullShare (TU (BitVec.ofNat 32 (i 0).val) x0 x1 x2 x3 x4 x6 x7 x8 x9) ∗ owns (c : Thread nD τ) arg13 fullShare (TM (BitVec.ofNat 32 (i 0).val) x1 x2 x3 x4 x6 x7) ∗ owns (c : Thread nD τ) arg14 fullShare (TMS (BitVec.ofNat 32 (i 0).val) x1 x2 x3 x4 x6 x7 o14) ∗ owns (c : Thread nD τ) arg15 fullShare (TS (BitVec.ofNat 32 (i 0).val) x1 x2 x3 x4 x8 x9) ∗ owns (c : Thread nD τ) arg16 fullShare (TSS (BitVec.ofNat 32 (i 0).val) x1 x2 x3 x4 x8 x9 o16) ∗ owns (c : Thread nD τ) arg17 fullShare (XT x1 x2) ∗ (∃ d, owns (c : Thread nD τ) arg18 fullShare d) ∗ (∃ d, owns (c : Thread nD τ) arg19 fullShare d)) -∗ K ⟨⟩))
    ⊢ wp frame (wpE (defs₀ (F := Ideal)) Variants.none c none) E (cc0_wgrad_adam8bit i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_wgrad_adam8bit_eq_skeleton]; unfold cc0_wgrad_adam8bit_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%d15, %f15, -, H15⟩, ⟨%f16, %hf16, H16⟩, ⟨%d17, %f17, -, H17⟩, ⟨%d18, %f18, -, H18⟩, ⟨%d19, %f19, -, H19⟩, Hk⟩
  sl_exec (disch := first | sl_exact hc)
  sl_for (inv1 c arg2 arg3 arg17 f2 f3) $$ [H2 H3 H17]
  case region => intro k a; cases a; exact trip1 Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc f2 f3 k
  · unfold inv1
    isplitl [H2]; · iexact H2
    isplitl [H3]; · iexact H3
    iexists _
    isplitl [H17]; · iexact H17
    ipureintro
    intro y hy
    exact absurd hy (Nat.not_lt_zero _)
  iintro %a0 HI
  unfold inv1
  icases HI with ⟨H2, H3, ⟨%g17, H17, %hg17⟩⟩
  sl_exec
  have e17 : arg17.view.read (Elt Ideal) g17 = XT x1 x2 := (funext fun y => hg17 y (lt_rows1 y)).trans (congrArg₂ XT hf2 hf3)
  sl_for (inv2 c arg4 arg5 arg18 f4 f5 (BitVec.ofNat 32 (i 0).val)) $$ [H4 H5 H18]
  case region => intro k a; cases a; exact trip2 Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) f4 f5 k
  · unfold inv2
    isplitl [H4]; · iexact H4
    isplitl [H5]; · iexact H5
    iexists _
    isplitl [H18]; · iexact H18
    ipureintro
    intro y hy
    exact absurd hy (Nat.not_lt_zero _)
  iintro %a HI
  unfold inv2
  icases HI with ⟨H4, H5, ⟨%g18, H18, %hg18⟩⟩
  sl_exec
  sl_for (inv3 c arg17 arg18 arg19 g17 g18) $$ [H17 H18 H19]
  case region => intro k a; cases a; exact trip3 Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  g17 g18 k
  · unfold inv3
    isplitl [H17]; · iexact H17
    isplitl [H18]; · iexact H18
    iexists _
    isplitl [H19]; · iexact H19
    ipureintro
    exact fun y => (acc0 arg19 _ y).trans (zero_sum _)
  iintro %a2 HI
  unfold inv3
  icases HI with ⟨H17, H18, ⟨%g19, H19, %hg19⟩⟩
  sl_exec
  rw [show kernel_val0.sl.r c arg1 f1 = stepOf (arg1.view.read (Elt Ideal) f1) from step_read' arg1 harg1 f1 _ (by unfold kernel_val0.sl.r; rfl)]
  sl_for (inv4 c arg6 arg7 arg8 arg9 arg10 arg19 arg11 arg12 arg13 arg14 arg15 arg16 f6 f7 f8 f9 f10 g19 f14 f16 (BitVec.ofNat 32 (i 0).val) (stepOf (arg1.view.read (Elt Ideal) f1))) $$ [H6 H7 H8 H9 H10 H19 H11 H12 H13 H14 H15 H16]
  case region => intro k a; cases a; exact trip4 Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) _ f6 f7 f8 f9 f10 g19 f14 f16 k
  · unfold inv4
    isplitl [H6]; · iexact H6
    isplitl [H7]; · iexact H7
    isplitl [H8]; · iexact H8
    isplitl [H9]; · iexact H9
    isplitl [H10]; · iexact H10
    isplitl [H19]; · iexact H19
    isplitl [H11]
    · iexists _
      isplitl [H11]; · iexact H11
      ipureintro
      exact fun y hy => absurd hy (Nat.not_lt_zero _)
    isplitl [H12]
    · iexists _
      isplitl [H12]; · iexact H12
      ipureintro
      exact fun y hy => absurd hy (Nat.not_lt_zero _)
    isplitl [H13]
    · iexists _
      isplitl [H13]; · iexact H13
      ipureintro
      exact fun y hy => absurd hy (Nat.not_lt_zero _)
    isplitl [H14]
    · iexists _
      isplitl [H14]; · iexact H14
      ipureintro
      exact fun y => ⟨fun hy => absurd hy (Nat.not_lt_zero _), fun _ => rfl⟩
    isplitl [H15]
    · iexists _
      isplitl [H15]; · iexact H15
      ipureintro
      exact fun y hy => absurd hy (Nat.not_lt_zero _)
    iexists _
    isplitl [H16]; · iexact H16
    ipureintro
    exact fun y => ⟨fun hy => absurd hy (Nat.not_lt_zero _), fun _ => rfl⟩
  iintro %a3 HI
  unfold inv4
  icases HI with ⟨H6, H7, H8, H9, H10, H19, ⟨%g11, H11, %hg11⟩, ⟨%g12, H12, %hg12⟩, ⟨%g13, H13, %hg13⟩, ⟨%g14, H14, %hg14⟩, ⟨%g15, H15, %hg15⟩, ⟨%g16, H16, %hg16⟩⟩
  sl_exec
  sl_step
  subst hf1 hf2 hf3 hf4 hf5 hf6 hf7 hf8 hf9 hf10 hf14 hf16
  have e18 : arg18.view.read (Elt Ideal) g18 = DYB (BitVec.ofNat 32 (i 0).val) (arg4.view.read (Elt Ideal) f4) (arg5.view.read (Elt Ideal) f5) := funext fun y => hg18 y (lt_rows2 y)
  have e19 : arg19.view.read (Elt Ideal) g19 = GT (BitVec.ofNat 32 (i 0).val) (arg2.view.read (Elt Ideal) f2) (arg3.view.read (Elt Ideal) f3) (arg4.view.read (Elt Ideal) f4) (arg5.view.read (Elt Ideal) f5) :=
    grad_eq _ _ _ _ _ _ _ _ e17 e18 hg19
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; exact TW_of e19 (fun y => hg11 y (lt_rowsT y))
  isplitl [H12]
  · iexists _; isplitr; swap; · iexact H12
    ipureintro; exact TU_of e19 (fun y => hg12 y (lt_rowsT y))
  isplitl [H13]
  · iexists _; isplitr; swap; · iexact H13
    ipureintro; exact TM_of e19 (fun y => hg13 y (lt_rowsT y))
  isplitl [H14]
  · iexists _; isplitr; swap; · iexact H14
    ipureintro; exact TMS_of e19 (fun y => (hg14 y).1 (lt_rowsS y))
  isplitl [H15]
  · iexists _; isplitr; swap; · iexact H15
    ipureintro; exact TS_of e19 (fun y => hg15 y (lt_rowsT y))
  isplitl [H16]
  · iexists _; isplitr; swap; · iexact H16
    ipureintro; exact TSS_of e19 (fun y => (hg16 y).1 (lt_rowsS y))
  isplitl [H17]
  · iexists _; isplitr; swap; · iexact H17
    ipureintro; exact e17
  isplitl [H18]
  · iexists _, _; isplitr; swap; · iexact H18
    ipureintro; rfl
  iexists _, _; isplitr; swap; · iexact H19
  ipureintro; rfl

/-- A run of the body at a later grid point, which finds the operand widened. -/
theorem kernel_val1 (c : Dev nD) (i : grid0.Coords) (hc : ¬ k0_cond1 i = 1#1) (arg1 : Memref sig .tc .smem S1x1 .i32) (harg1 : arg1.IsWhole) (arg2 : Memref sig .tc .vmem S6144x1536 .fp8e4m3) (harg2 : arg2.IsWhole) (arg3 : Memref sig .tc .vmem S6144x12 .f32) (harg3 : arg3.IsWhole) (arg4 : Memref sig .tc .vmem S6144x256 .fp8e5m2) (harg4 : arg4.IsWhole) (arg5 : Memref sig .tc .vmem S6144x32 .f32) (harg5 : arg5.IsWhole) (arg6 : Memref sig .tc .vmem S1536x256 .bf16) (harg6 : arg6.IsWhole) (arg7 : Memref sig .tc .vmem S1536x256 .i8) (harg7 : arg7.IsWhole) (arg8 : Memref sig .tc .vmem S1536x32 .f32) (harg8 : arg8.IsWhole) (arg9 : Memref sig .tc .vmem S1536x256 .i8) (harg9 : arg9.IsWhole) (arg10 : Memref sig .tc .vmem S1536x32 .f32) (harg10 : arg10.IsWhole) (arg11 : Memref sig .tc .vmem S1536x256 .bf16) (harg11 : arg11.IsWhole) (arg12 : Memref sig .tc .vmem S1536x256 .f32) (harg12 : arg12.IsWhole) (arg13 : Memref sig .tc .vmem S1536x256 .i8) (harg13 : arg13.IsWhole) (arg14 : Memref sig .tc .vmem S1536x32 .f32) (harg14 : arg14.IsWhole) (arg15 : Memref sig .tc .vmem S1536x256 .i8) (harg15 : arg15.IsWhole) (arg16 : Memref sig .tc .vmem S1536x32 .f32) (harg16 : arg16.IsWhole) (arg17 : Memref sig .tc .vmem S24x1536x256 .bf16) (harg17 : arg17.IsWhole) (arg18 : Memref sig .tc .vmem S6144x256 .bf16) (harg18 : arg18.IsWhole) (arg19 : Memref sig .tc .vmem S1536x256 .f32) (harg19 : arg19.IsWhole) (x0 : Vec Ideal S1x1 .i32) (x1 : Vec Ideal S6144x1536 .fp8e4m3) (x2 : Vec Ideal S6144x12 .f32) (x3 : Vec Ideal S6144x256 .fp8e5m2) (x4 : Vec Ideal S6144x32 .f32) (x5 : Vec Ideal S1536x256 .bf16) (x6 : Vec Ideal S1536x256 .i8) (x7 : Vec Ideal S1536x32 .f32) (x8 : Vec Ideal S1536x256 .i8) (x9 : Vec Ideal S1536x32 .f32) (o14 o16 : Vec Ideal S1536x32 .f32) (E : Set ℕ) (K : PUnit → sProp 𝕄I) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare o14 ∗ (∃ d, owns (c : Thread nD τ) arg15 fullShare d) ∗ owns (c : Thread nD τ) arg16 fullShare o16 ∗ owns (c : Thread nD τ) arg17 fullShare (XT x1 x2) ∗ (∃ d, owns (c : Thread nD τ) arg18 fullShare d) ∗ (∃ d, owns (c : Thread nD τ) arg19 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (TW (BitVec.ofNat 32 (i 0).val) x0 x1 x2 x3 x4 x5 x6 x7 x8 x9) ∗ owns (c : Thread nD τ) arg12 fullShare (TU (BitVec.ofNat 32 (i 0).val) x0 x1 x2 x3 x4 x6 x7 x8 x9) ∗ owns (c : Thread nD τ) arg13 fullShare (TM (BitVec.ofNat 32 (i 0).val) x1 x2 x3 x4 x6 x7) ∗ owns (c : Thread nD τ) arg14 fullShare (TMS (BitVec.ofNat 32 (i 0).val) x1 x2 x3 x4 x6 x7 o14) ∗ owns (c : Thread nD τ) arg15 fullShare (TS (BitVec.ofNat 32 (i 0).val) x1 x2 x3 x4 x8 x9) ∗ owns (c : Thread nD τ) arg16 fullShare (TSS (BitVec.ofNat 32 (i 0).val) x1 x2 x3 x4 x8 x9 o16) ∗ owns (c : Thread nD τ) arg17 fullShare (XT x1 x2) ∗ (∃ d, owns (c : Thread nD τ) arg18 fullShare d) ∗ (∃ d, owns (c : Thread nD τ) arg19 fullShare d)) -∗ K ⟨⟩))
    ⊢ wp frame (wpE (defs₀ (F := Ideal)) Variants.none c none) E (cc0_wgrad_adam8bit i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_wgrad_adam8bit_eq_skeleton]; unfold cc0_wgrad_adam8bit_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%d15, %f15, -, H15⟩, ⟨%f16, %hf16, H16⟩, ⟨%f17, %hf17, H17⟩, ⟨%d18, %f18, -, H18⟩, ⟨%d19, %f19, -, H19⟩, Hk⟩
  sl_exec (disch := first | sl_exact hc)
  have e17 : arg17.view.read (Elt Ideal) f17 = XT x1 x2 := hf17
  sl_for (inv2 c arg4 arg5 arg18 f4 f5 (BitVec.ofNat 32 (i 0).val)) $$ [H4 H5 H18]
  case region => intro k a; cases a; exact trip2 Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) f4 f5 k
  · unfold inv2
    isplitl [H4]; · iexact H4
    isplitl [H5]; · iexact H5
    iexists _
    isplitl [H18]; · iexact H18
    ipureintro
    intro y hy
    exact absurd hy (Nat.not_lt_zero _)
  iintro %a HI
  unfold inv2
  icases HI with ⟨H4, H5, ⟨%g18, H18, %hg18⟩⟩
  sl_exec
  sl_for (inv3 c arg17 arg18 arg19 f17 g18) $$ [H17 H18 H19]
  case region => intro k a; cases a; exact trip3 Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  f17 g18 k
  · unfold inv3
    isplitl [H17]; · iexact H17
    isplitl [H18]; · iexact H18
    iexists _
    isplitl [H19]; · iexact H19
    ipureintro
    exact fun y => (acc0 arg19 _ y).trans (zero_sum _)
  iintro %a2 HI
  unfold inv3
  icases HI with ⟨H17, H18, ⟨%g19, H19, %hg19⟩⟩
  sl_exec
  rw [show kernel_val1.sl.r c arg1 f1 = stepOf (arg1.view.read (Elt Ideal) f1) from step_read' arg1 harg1 f1 _ (by unfold kernel_val1.sl.r; rfl)]
  sl_for (inv4 c arg6 arg7 arg8 arg9 arg10 arg19 arg11 arg12 arg13 arg14 arg15 arg16 f6 f7 f8 f9 f10 g19 f14 f16 (BitVec.ofNat 32 (i 0).val) (stepOf (arg1.view.read (Elt Ideal) f1))) $$ [H6 H7 H8 H9 H10 H19 H11 H12 H13 H14 H15 H16]
  case region => intro k a; cases a; exact trip4 Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) _ f6 f7 f8 f9 f10 g19 f14 f16 k
  · unfold inv4
    isplitl [H6]; · iexact H6
    isplitl [H7]; · iexact H7
    isplitl [H8]; · iexact H8
    isplitl [H9]; · iexact H9
    isplitl [H10]; · iexact H10
    isplitl [H19]; · iexact H19
    isplitl [H11]
    · iexists _
      isplitl [H11]; · iexact H11
      ipureintro
      exact fun y hy => absurd hy (Nat.not_lt_zero _)
    isplitl [H12]
    · iexists _
      isplitl [H12]; · iexact H12
      ipureintro
      exact fun y hy => absurd hy (Nat.not_lt_zero _)
    isplitl [H13]
    · iexists _
      isplitl [H13]; · iexact H13
      ipureintro
      exact fun y hy => absurd hy (Nat.not_lt_zero _)
    isplitl [H14]
    · iexists _
      isplitl [H14]; · iexact H14
      ipureintro
      exact fun y => ⟨fun hy => absurd hy (Nat.not_lt_zero _), fun _ => rfl⟩
    isplitl [H15]
    · iexists _
      isplitl [H15]; · iexact H15
      ipureintro
      exact fun y hy => absurd hy (Nat.not_lt_zero _)
    iexists _
    isplitl [H16]; · iexact H16
    ipureintro
    exact fun y => ⟨fun hy => absurd hy (Nat.not_lt_zero _), fun _ => rfl⟩
  iintro %a3 HI
  unfold inv4
  icases HI with ⟨H6, H7, H8, H9, H10, H19, ⟨%g11, H11, %hg11⟩, ⟨%g12, H12, %hg12⟩, ⟨%g13, H13, %hg13⟩, ⟨%g14, H14, %hg14⟩, ⟨%g15, H15, %hg15⟩, ⟨%g16, H16, %hg16⟩⟩
  sl_exec
  sl_step
  subst hf1 hf2 hf3 hf4 hf5 hf6 hf7 hf8 hf9 hf10 hf14 hf16
  have e18 : arg18.view.read (Elt Ideal) g18 = DYB (BitVec.ofNat 32 (i 0).val) (arg4.view.read (Elt Ideal) f4) (arg5.view.read (Elt Ideal) f5) := funext fun y => hg18 y (lt_rows2 y)
  have e19 : arg19.view.read (Elt Ideal) g19 = GT (BitVec.ofNat 32 (i 0).val) (arg2.view.read (Elt Ideal) f2) (arg3.view.read (Elt Ideal) f3) (arg4.view.read (Elt Ideal) f4) (arg5.view.read (Elt Ideal) f5) :=
    grad_eq _ _ _ _ _ _ _ _ e17 e18 hg19
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; exact TW_of e19 (fun y => hg11 y (lt_rowsT y))
  isplitl [H12]
  · iexists _; isplitr; swap; · iexact H12
    ipureintro; exact TU_of e19 (fun y => hg12 y (lt_rowsT y))
  isplitl [H13]
  · iexists _; isplitr; swap; · iexact H13
    ipureintro; exact TM_of e19 (fun y => hg13 y (lt_rowsT y))
  isplitl [H14]
  · iexists _; isplitr; swap; · iexact H14
    ipureintro; exact TMS_of e19 (fun y => (hg14 y).1 (lt_rowsS y))
  isplitl [H15]
  · iexists _; isplitr; swap; · iexact H15
    ipureintro; exact TS_of e19 (fun y => hg15 y (lt_rowsT y))
  isplitl [H16]
  · iexists _; isplitr; swap; · iexact H16
    ipureintro; exact TSS_of e19 (fun y => (hg16 y).1 (lt_rowsS y))
  isplitl [H17]
  · iexists _; isplitr; swap; · iexact H17
    ipureintro; exact e17
  isplitl [H18]
  · iexists _, _; isplitr; swap; · iexact H18
    ipureintro; rfl
  iexists _, _; isplitr; swap; · iexact H19
  ipureintro; rfl

end Cert.KernelIdeal.Hand

end
-- ==== Proof.ILane.lean ====
module

public import proofs.«01_k».proof.Proof.IPayE

@[expose] public section

set_option maxRecDepth 16384

noncomputable section

namespace Cert.KernelIdeal.Hand

open Cert.KernelIdeal Cert.KernelIdeal.Gen
open Idealize.ShloMosaic

/-! ## Lanes of a grid point -/

/-- The lane that column block `b` of grid point `n` selects is `2 n + b`. -/
theorem lane_fin : ∀ (n : Fin 16) (b : Fin 2), laneOf (blk (BitVec.ofNat 32 n.val) b.val) = 2 * n.val + b.val := by
  decide +kernel

/-- The lane that column block `b` of grid point `n` selects is `2 n + b`. -/
theorem lane_eq {n b : ℕ} (hn : n < 16) (hb : b < 2) : laneOf (blk (BitVec.ofNat 32 n) b) = 2 * n + b :=
  lane_fin ⟨n, hn⟩ ⟨b, hb⟩

/-- A lane is the first block's of grid point `n` exactly when it is `2 n`. -/
theorem cmp_fin0 : ∀ (n : Fin 16) (l : Fin 32),
    IntOp.cmpi CmpIPredicate.eq (BitVec.ofNat 32 l.val) (blk (BitVec.ofNat 32 n.val) 0) = if l.val = 2 * n.val then 1#1 else 0#1 := by
  decide +kernel

/-- A lane is the second block's of grid point `n` exactly when it is `2 n + 1`. -/
theorem cmp_fin1 : ∀ (n : Fin 16) (l : Fin 32),
    IntOp.cmpi CmpIPredicate.eq (BitVec.ofNat 32 l.val) (blk (BitVec.ofNat 32 n.val) 1) = if l.val = 2 * n.val + 1 then 1#1 else 0#1 := by
  decide +kernel

/-- The scales after a grid point, at a lane: the point's own at its two lanes, the others as they were. -/
theorem put_lane (f old : ℕ → ℕ → EReal) (r : ℕ) {n l : ℕ} (hn : n < 16) (hl : l < 32) :
    putT (BitVec.ofNat 32 n) f old r l = if l / 2 = n then scT f r (l % 2) else old r l := by
  have e0 := cmp_fin0 ⟨n, hn⟩ ⟨l, hl⟩
  have e1 := cmp_fin1 ⟨n, hn⟩ ⟨l, hl⟩
  dsimp only at e0 e1
  unfold putT
  rw [e0, e1]
  by_cases h1 : l = 2 * n + 1
  · have hq : l / 2 = n := by omega
    have hr : l % 2 = 1 := by omega
    rw [if_pos h1, if_pos hq, hr]
    rfl
  · rw [if_neg h1]
    by_cases h0 : l = 2 * n
    · have hq : l / 2 = n := by omega
      have hr : l % 2 = 0 := by omega
      rw [if_pos h0, if_pos hq, hr]
      rfl
    · have hq : ¬ l / 2 = n := by omega
      rw [if_neg h0, if_neg hq]
      rfl

end Cert.KernelIdeal.Hand

end
-- ==== Proof.IVal.lean ====
module

public import proofs.«01_k».proof.Proof.Gen.KernelIdeal.Frame
public import proofs.«01_k».proof.Proof.IRunP
public import proofs.«01_k».proof.Proof.ILane
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The memrefs a grid point runs on -/

abbrev ms0_0 (t : Fin cfg0.N) : Memref sig .tc .smem S1x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x1536 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x12 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x256 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6144x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x256 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1536x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1536x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1536x256 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1536x32 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1536x256 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1536x32 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S24x1536x256 .bf16 := Memref.whole cc0_scratch0
abbrev scM0_1 : Memref sig .tc .vmem S6144x256 .bf16 := Memref.whole cc0_scratch1
abbrev scM0_2 : Memref sig .tc .vmem S1536x256 .f32 := Memref.whole cc0_scratch2

/-- The region invariant: every scratch buffer at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the points leave -/

/-- The number of a grid point, as the kernel reads it. -/
abbrev a0 (t : Fin cfg0.N) : BitVec 32 := BitVec.ofNat 32 (grid0.coords t 0).val

/-- The grid point of a number. -/
def ptOf (n : ℕ) : Fin cfg0.N := ⟨n % 16, Nat.mod_lt _ (by decide)⟩

/-- A grid point's first coordinate is its number. -/
theorem coord0 (t : Fin cfg0.N) : (grid0.coords t 0).val = t.val := by
  have h : t.val < 16 := t.isLt
  have e0 : (grid0.coords t 0).val = t.val / 1 % 16 := Pipeline.Grid.coords_val t 0 (by decide) rfl
  omega

/-- A point's tile of the gradient. -/
def pG (c : Dev nD) (t : Fin cfg0.N) : S1536x256.Idx → EReal :=
  GT (a0 t) (iblk m c 1 t) (iblk m c 2 t) (iblk m c 3 t) (iblk m c 4 t)

/-- A point's tile of the first moment. -/
def pM (c : Dev nD) (t : Fin cfg0.N) : ℕ → ℕ → EReal := mT (a0 t) (iblk m c 6 t) (iblk m c 7 t) (pG m c t)

/-- A point's tile of the second moment's root. -/
def pV (c : Dev nD) (t : Fin cfg0.N) : ℕ → ℕ → EReal := rtT (vT (a0 t) (iblk m c 8 t) (iblk m c 9 t) (pG m c t))

/-- What a point leaves in an output's buffer: a tile in the buffers of tiles, and in the two buffers of scales the scales of all lanes so far. -/
def Rl (c : Dev nD) (w : Fin cfg0.W) (t : Fin cfg0.N) : ((cfg0.win w).block.Idx → Elt Ideal (cfg0.win w).elt) → Prop :=
  match w with
  | ⟨10, _⟩ => fun X => X = TW (a0 t) (iblk m c 0 t) (iblk m c 1 t) (iblk m c 2 t) (iblk m c 3 t) (iblk m c 4 t) (iblk m c 5 t) (iblk m c 6 t) (iblk m c 7 t) (iblk m c 8 t) (iblk m c 9 t)
  | ⟨11, _⟩ => fun X => X = TU (a0 t) (iblk m c 0 t) (iblk m c 1 t) (iblk m c 2 t) (iblk m c 3 t) (iblk m c 4 t) (iblk m c 6 t) (iblk m c 7 t) (iblk m c 8 t) (iblk m c 9 t)
  | ⟨12, _⟩ => fun X => X = TM (a0 t) (iblk m c 1 t) (iblk m c 2 t) (iblk m c 3 t) (iblk m c 4 t) (iblk m c 6 t) (iblk m c 7 t)
  | ⟨13, _⟩ => fun X => ∀ y : S1536x32.Idx, (y 1).val < 2 * (t.val + 1) → (X : S1536x32.Idx → EReal) y = scT (pM m c (ptOf ((y 1).val / 2))) (y 0).val ((y 1).val % 2)
  | ⟨14, _⟩ => fun X => X = TS (a0 t) (iblk m c 1 t) (iblk m c 2 t) (iblk m c 3 t) (iblk m c 4 t) (iblk m c 8 t) (iblk m c 9 t)
  | ⟨15, _⟩ => fun X => ∀ y : S1536x32.Idx, (y 1).val < 2 * (t.val + 1) → (X : S1536x32.Idx → EReal) y = scT (pV m c (ptOf ((y 1).val / 2))) (y 0).val ((y 1).val % 2)
  | _ => fun _ => True

/-- The scales after the first point are right at its lanes. -/
theorem put_first (P : Fin cfg0.N → ℕ → ℕ → EReal) (t : Fin cfg0.N) (h0 : t.val = 0) (old : ℕ → ℕ → EReal) (y : S1536x32.Idx)
    (hy : (y 1).val < 2 * (t.val + 1)) :
    putT (a0 t) (P t) old (y 0).val (y 1).val = scT (P (ptOf ((y 1).val / 2))) (y 0).val ((y 1).val % 2) := by
  have h1 : (y 1).val < 32 := (y 1).isLt
  have ht : t.val < 16 := t.isLt
  have hq : (y 1).val / 2 = t.val := by omega
  have hp : ptOf ((y 1).val / 2) = t := Fin.ext (by show (y 1).val / 2 % 16 = t.val; omega)
  rw [show a0 t = BitVec.ofNat 32 t.val from congrArg (BitVec.ofNat 32) (coord0 t), put_lane _ _ _ ht h1, if_pos hq, hp]

/-- The scales after a later point are right at all lanes so far, if they were before it. -/
theorem put_next (P : Fin cfg0.N → ℕ → ℕ → EReal) (t : Fin cfg0.N) (h0 : ¬ t.val = 0) (o : S1536x32.Idx → EReal)
    (ho : ∀ y : S1536x32.Idx, (y 1).val < 2 * (t.val - 1 + 1) → o y = scT (P (ptOf ((y 1).val / 2))) (y 0).val ((y 1).val % 2)) (y : S1536x32.Idx)
    (hy : (y 1).val < 2 * (t.val + 1)) :
    putT (a0 t) (P t) (at2 o) (y 0).val (y 1).val = scT (P (ptOf ((y 1).val / 2))) (y 0).val ((y 1).val % 2) := by
  have h1 : (y 1).val < 32 := (y 1).isLt
  have ht : t.val < 16 := t.isLt
  rw [show a0 t = BitVec.ofNat 32 t.val from congrArg (BitVec.ofNat 32) (coord0 t), put_lane _ _ _ ht h1]
  by_cases hq : (y 1).val / 2 = t.val
  · have hp : ptOf ((y 1).val / 2) = t := Fin.ext (by show (y 1).val / 2 % 16 = t.val; omega)
    rw [if_pos hq, hp]
  · rw [if_neg hq, at2_eq o y rfl rfl]
    exact ho y (by omega)

/-- The transposed activations do not depend on the point. -/
theorem iblk_const1 (c : Dev nD) (t t' : Fin cfg0.N) : iblk m c 1 t = iblk m c 1 t' := rfl
theorem iblk_const2 (c : Dev nD) (t t' : Fin cfg0.N) : iblk m c 2 t = iblk m c 2 t' := rfl

/-- The kernel's condition holds at the first point alone. -/
theorem cond_first (t : Fin cfg0.N) : k0_cond1 (grid0.coords t) = 1#1 ↔ t.val % 16 = 0 := by
  have e0 : (grid0.coords t 0).val = t.val / 1 % 16 := Pipeline.Grid.coords_val t 0 (by decide) rfl
  simp only [k0_cond1, e0]
  word_cmp

/-- The invariant between points: after the first the transposed activations are in their buffer. -/
def Phi (c : Dev nD) (n : ℕ) : sProp 𝕄 :=
  if n = 0 then Pipeline.ΦA spec0 c else
    iprop(iprop(owns (c : Thread nD τ) scM0_0 fullShare (XT (iblk m c 1 (ptOf 0)) (iblk m c 2 (ptOf 0))) ∗ (∃ d, owns (c : Thread nD τ) scM0_1 fullShare d) ∗ (∃ d, owns (c : Thread nD τ) scM0_2 fullShare d)) ∗ (∃ r, prngReg c r))

theorem Phi_zero (c : Dev nD) {n : ℕ} (h : n = 0) : Phi m c n = Pipeline.ΦA spec0 c := if_pos h
theorem Phi_pos (c : Dev nD) {n : ℕ} (h : ¬ n = 0) : Phi m c n =
    iprop(iprop(owns (c : Thread nD τ) scM0_0 fullShare (XT (iblk m c 1 (ptOf 0)) (iblk m c 2 (ptOf 0))) ∗ (∃ d, owns (c : Thread nD τ) scM0_1 fullShare d) ∗ (∃ d, owns (c : Thread nD τ) scM0_2 fullShare d)) ∗ (∃ r, prngReg c r)) := if_neg h

/-! ## The pipeline's proof data -/

/-- The output windows, held to what the points leave there. -/
def forgets0 : Fin 16 → Bool := fun w => w.val == 10 || w.val == 11 || w.val == 12 || w.val == 13 || w.val == 14 || w.val == 15

/-- The proof data: the arrays as the region finds them, each input's buffer left at its block, the outputs held to a predicate of their own. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := Phi m c t.val
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- The run's data: the inputs exactly, each output held to what the points leave. -/
abbrev rdat (c : Dev nD) : Pipeline.RDat τ (Elt Ideal) Unit ℕ (UR sig nD τ) ℕ cfg0 c := (dats m 0 c).toRRel forgets0 (Rl m c)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y)
    ∗ (∃ Y, ⌜(rdat m c).Finds 14 t Y⌝ ∗ owns (c : Thread nD τ) (ms0_14 t) fullShare Y)
    ∗ (∃ Y, ⌜(rdat m c).Finds 15 t Y⌝ ∗ owns (c : Thread nD τ) (ms0_15 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X))

/-- At a later point a buffer of scales holds what the point before left. -/
theorem finds_prev (c : Dev nD) (w : Fin cfg0.W) (hw : w = 13 ∨ w = 15) (t : Fin cfg0.N) (h0 : ¬ t.val = 0) (Y) (h : (rdat m c).Finds w t Y) :
    Rl m c w ⟨t.val - 1, Nat.lt_of_le_of_lt (Nat.sub_le _ _) t.isLt⟩ Y := by
  have ht : t.val < 16 := t.isLt
  rcases hw with rfl | rfl
  · rcases (Pipeline.RDat.finds_of_pos (rd := rdat m c) ((cfg0.win 13).fetch_out rfl t) h0 Y).1 h with hf | hl
    · have := (flush0_13 _).1 hf
      dsimp only at this
      omega
    · exact (dats m 0 c).toRRel_leaves rfl hl
  · rcases (Pipeline.RDat.finds_of_pos (rd := rdat m c) ((cfg0.win 15).fetch_out rfl t) h0 Y).1 h with hf | hl
    · have := (flush0_15 _).1 hf
      dsimp only at this
      omega
    · exact (dats m 0 c).toRRel_leaves rfl hl

set_option maxHeartbeats 1600000 in
/-- The body at the first point. -/
theorem sound_first (c : Dev nD) (t : Fin cfg0.N) (h0 : t.val = 0) :
    bodyPre m c t ⊢ wp frame (wpE (defs₀ (F := Ideal)) Variants.none c none) Set.univ (bodyAt0 t) (fun _ => bodyPost m c t) := by
  have hc : k0_cond1 (grid0.coords t) = 1#1 := (cond_first t).2 (by rw [h0])
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from Phi_zero m c h0, show (dats m 0 c).Φ t.succ = _ from Phi_pos m c (n := t.val + 1) (Nat.succ_ne_zero _), PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, %hd10, H10⟩, ⟨%d11, %hd11, H11⟩, ⟨%d12, %hd12, H12⟩, ⟨%d13, %hd13, H13⟩, ⟨%d14, %hd14, H14⟩, ⟨%d15, %hd15, H15⟩⟩
  iapply (kernel_val0 c (grid0.coords t) hc _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) d13 d15 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexists _; iexact H14
  isplitl [H15]; · iexact H15
  isplitl [HS0]; · iexact HS0
  isplitl [HS1]; · iexact HS1
  isplitl [HS2]; · iexact HS2
  iintro ⟨H0, H1, H2, H3, H4, H5, H6, H7, H8, H9, H10, H11, H12, H13, H14, H15, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact fun y hy => put_first (pM m c) t h0 _ y hy
  isplitl [H14]
  · iexists _; isplitr; swap; · iexact H14
    ipureintro; exact rfl
  iexists _; isplitr; swap; · iexact H15
  ipureintro; exact fun y hy => put_first (pV m c) t h0 _ y hy

set_option maxHeartbeats 1600000 in
/-- The body at a later point. -/
theorem sound_later (c : Dev nD) (t : Fin cfg0.N) (h0 : ¬ t.val = 0) :
    bodyPre m c t ⊢ wp frame (wpE (defs₀ (F := Ideal)) Variants.none c none) Set.univ (bodyAt0 t) (fun _ => bodyPost m c t) := by
  have ht : t.val < 16 := t.isLt
  have hc : ¬ k0_cond1 (grid0.coords t) = 1#1 := fun h => h0 (by have := (cond_first t).1 h; omega)
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.castSucc = _ from Phi_pos m c (n := t.val) h0, show (dats m 0 c).Φ t.succ = _ from Phi_pos m c (n := t.val + 1) (Nat.succ_ne_zero _)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, %hd10, H10⟩, ⟨%d11, %hd11, H11⟩, ⟨%d12, %hd12, H12⟩, ⟨%d13, %hd13, H13⟩, ⟨%d14, %hd14, H14⟩, ⟨%d15, %hd15, H15⟩⟩
  iapply (kernel_val1 c (grid0.coords t) hc _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) d13 d15 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexists _; iexact H14
  isplitl [H15]; · iexact H15
  isplitl [HS0]; · iexact HS0
  isplitl [HS1]; · iexact HS1
  isplitl [HS2]; · iexact HS2
  iintro ⟨H0, H1, H2, H3, H4, H5, H6, H7, H8, H9, H10, H11, H12, H13, H14, H15, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact fun y hy => put_next (pM m c) t h0 _ (finds_prev m c 13 (Or.inl rfl) t h0 _ hd13) y hy
  isplitl [H14]
  · iexists _; isplitr; swap; · iexact H14
    ipureintro; exact rfl
  iexists _; isplitr; swap; · iexact H15
  ipureintro; exact fun y hy => put_next (pV m c) t h0 _ (finds_prev m c 15 (Or.inr rfl) t h0 _ hd15) y hy

/-- The body at any point of the grid. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val = 0
  · exact sound_first m c t h0
  · exact sound_later m c t h0

/-- The body table's row at a point is the body there. -/
theorem defs₀_row (t : Fin cfg0.N) :
    defs₀ (F := Ideal) .tc cfg0.body (cfg0.bodyArgs t (cfg0.slots t)) = bodyAt0 t := by
  unfold defs₀; rw [Defs.onTc_tc]

/-- The pipeline's body obligation. -/
theorem body_obligation (c : Dev nD) : Pipeline.BodyObligationRel (dats m 0 c) (defs₀ (F := Ideal)) Variants.none () Set.univ forgets0 (Rl m c) := fun t => by
  rw [bigSep_W0, bigSep_W0, defs₀_row]
  exact triple_restated (sound_body m c t) rfl .rfl fun _ => .rfl

/-! ## The arguments -/

/-- From a run that leaves the staged inputs and the other buffers as they were: the arguments end unchanged. -/
theorem frame_of_rel (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 5 rfl).trans ((hA c 5).trans (V_main_arg4 m c)),
      (Pipeline.RDat.FramePost.arr_in h c 6 rfl).trans ((hA c 6).trans (V_main_arg5 m c)),
      (Pipeline.RDat.FramePost.arr_in h c 7 rfl).trans ((hA c 7).trans (V_main_arg6 m c)),
      (Pipeline.RDat.FramePost.arr_in h c 8 rfl).trans ((hA c 8).trans (V_main_arg7 m c)),
      (Pipeline.RDat.FramePost.arr_in h c 9 rfl).trans ((hA c 9).trans (V_main_arg8 m c)),
      ((h c).2 main_arg9 (Pipeline.mem_restRefs_of main_arg9 (by decide) (by decide))).trans (V_main_arg9 m c)⟩) h

/-! ## The run and the frame -/

/-- The invariant before the first point is the class's. -/
theorem hin (c : Dev nD) : Pipeline.ΦA spec0 c ⊢ (dats m 0 c).Φ 0 := by
  rw [show (dats m 0 c).Φ 0 = Pipeline.ΦA spec0 c from Phi_zero m c rfl]

/-- After the last point the scratch buffers are forgotten. -/
theorem hout (c : Dev nD) : (dats m 0 c).Φ (Fin.last cfg0.N) ⊢ Pipeline.ΦA spec0 c := by
  change Phi m c 16 ⊢ _
  rw [Phi_pos m c (n := 16) (by decide), PhiA0_eq]
  iintro ⟨⟨HS0, HS1, HS2⟩, Hg⟩
  isplitr [Hg]; swap; · iexact Hg
  isplitl [HS0]; · iexists _; iexact HS0
  isplitl [HS1]; · iexact HS1
  iexact HS2

set_option backward.isDefEq.respectTransparency.types false in
/-- The launch: it ends, every array what the points leave, with every semaphore counter at zero. -/
theorem run_main_quiescent : θ_run defs (onTc (τ := τ) (main (F := Ideal))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The launch, without the counters. -/
theorem run_main : θ_run defs (onTc (τ := τ) (main (F := Ideal))) (s₀ m ρ) (Pipeline.RDat.FramePost (cfgs 0) (fun c => rdat m c) (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_rel m ρ (fun c => rdat m c) (A_eq m) (run_main m ρ)

/-- The frame: the program ends, its arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Hand

end
-- ==== Proof.Spec.lean ====
module

public import proofs.«01_k».proof.Proof.IPayE
public import Idealize.ShloMosaic.Lib.IdealHost
public import Idealize.ShloMosaic.Lib.Pipeline.ValueKit.Acc

@[expose] public section

set_option maxRecDepth 16384

noncomputable section

namespace Cert.KernelIdeal.Hand

open Cert.KernelIdeal Cert.KernelIdeal.Gen
open Idealize.ShloMosaic

/-! ## The six results as functions of the arguments -/

section Whole

variable (A0 : (⟨3, ![2, 3072, 1536]⟩ : Shape).Idx → EReal) (A1 : (⟨3, ![2, 3072, 12]⟩ : Shape).Idx → EReal)
  (A2 : (⟨3, ![2, 3072, 4096]⟩ : Shape).Idx → EReal) (A3 : (⟨3, ![2, 3072, 32]⟩ : Shape).Idx → EReal)
  (A4 : (⟨2, ![1536, 4096]⟩ : Shape).Idx → EReal)
  (A5 : (⟨2, ![1536, 4096]⟩ : Shape).Idx → BitVec 8) (A6 : (⟨2, ![1536, 32]⟩ : Shape).Idx → EReal)
  (A7 : (⟨2, ![1536, 4096]⟩ : Shape).Idx → BitVec 8) (A8 : (⟨2, ![1536, 32]⟩ : Shape).Idx → EReal) (w : BitVec 32)

/-- The summand of the weight gradient at row `r`, column `c` and token `l`: the two widened operands' product. -/
def termF (r c l : ℕ) : EReal :=
  at3 A0 (l / 3072) (l % 3072) r * at3 A1 (l / 3072) (l % 3072) (r / 128)
    * (at3 A2 (l / 3072) (l % 3072) c * at3 A3 (l / 3072) (l % 3072) (c / 128))

/-- The weight gradient at row `r` and column `c`: the sum over all tokens. -/
def gF (r c : ℕ) : EReal := ∑ l : Fin 6144, termF A0 A1 A2 A3 r c l.val

/-- The new first moment. -/
def mF (r c : ℕ) : EReal := mS (deqS (at2 A5 r c) (at2 A6 r (c / 128))) (gF A0 A1 A2 A3 r c)

/-- The new second moment. -/
def vF (r c : ℕ) : EReal := vS (deqS (at2 A7 r c) (at2 A8 r (c / 128))) (gF A0 A1 A2 A3 r c)

/-- The update. -/
def uF (r c : ℕ) : EReal :=
  uS (mF A0 A1 A2 A3 A5 A6 r c) (vF A0 A1 A2 A3 A7 A8 r c) (bcS w 1063675494#32) (bcS w 1065336439#32)

/-- The new weight. -/
def wF (r c : ℕ) : EReal := at2 A4 r c + uF A0 A1 A2 A3 A5 A6 A7 A8 w r c

/-- The array of new weights. -/
def oW : (⟨2, ![1536, 4096]⟩ : Shape).Idx → EReal := fun y => wF A0 A1 A2 A3 A4 A5 A6 A7 A8 w (y 0).val (y 1).val

/-- The array of updates. -/
def oU : (⟨2, ![1536, 4096]⟩ : Shape).Idx → EReal := fun y => uF A0 A1 A2 A3 A5 A6 A7 A8 w (y 0).val (y 1).val

/-- The array of the first moment's codes. -/
def oM : (⟨2, ![1536, 4096]⟩ : Shape).Idx → BitVec 8 := fun y => cdT (mF A0 A1 A2 A3 A5 A6) (y 0).val (y 1).val

/-- The array of the first moment's scales. -/
def oMS : (⟨2, ![1536, 32]⟩ : Shape).Idx → EReal := fun y => scT (mF A0 A1 A2 A3 A5 A6) (y 0).val (y 1).val

/-- The array of the codes of the second moment's root. -/
def oS : (⟨2, ![1536, 4096]⟩ : Shape).Idx → BitVec 8 := fun y => cdT (rtT (vF A0 A1 A2 A3 A7 A8)) (y 0).val (y 1).val

/-- The array of the scales of the second moment's root. -/
def oSS : (⟨2, ![1536, 32]⟩ : Shape).Idx → EReal := fun y => scT (rtT (vF A0 A1 A2 A3 A7 A8)) (y 0).val (y 1).val

/-- The gradient as a sum over batches and positions. -/
theorem gF_batches (r : Fin 1536) (c : Fin 4096) (hr : r.val / 128 < 12) (hc : c.val / 128 < 32) :
    ∑ b : Fin 2, ∑ s : Fin 3072, A0 (Idealize.ShloMosaic.ix3 b s r) * A1 (Idealize.ShloMosaic.ix3 b s ⟨r.val / 128, hr⟩)
        * (A2 (Idealize.ShloMosaic.ix3 b s c) * A3 (Idealize.ShloMosaic.ix3 b s ⟨c.val / 128, hc⟩))
      = gF A0 A1 A2 A3 r.val c.val := by
  unfold gF
  refine Fin.sum_mul_add_congr (L := 6144) (S := 2) (n := 3072) (f := fun l => termF A0 A1 A2 A3 r.val c.val l.val) (fun b s hl => ?_)
  have hb : (b.val * 3072 + s.val) / 3072 = b.val := by have := s.isLt; omega
  have hs : (b.val * 3072 + s.val) % 3072 = s.val := by have := s.isLt; omega
  unfold termF
  rw [hb, hs]
  refine congrArg₂ (fun a b : EReal => a * b) (congrArg₂ (fun a b : EReal => a * b) ?_ ?_) (congrArg₂ (fun a b : EReal => a * b) ?_ ?_)
  all_goals exact (at3_eq (α := EReal) _ _ rfl rfl rfl).symm

/-- The gradient as a sum over blocks of 256 tokens. -/
theorem gF_blocks (r c : ℕ) :
    ∑ j : Fin 24, ∑ l : Fin 256, termF A0 A1 A2 A3 r c (256 * j.val + l.val) = gF A0 A1 A2 A3 r c := by
  unfold gF
  refine Fin.sum_mul_add_congr (L := 6144) (S := 24) (n := 256) (f := fun l => termF A0 A1 A2 A3 r c l.val) (fun j l hl => ?_)
  exact congrArg (termF A0 A1 A2 A3 r c) (show 256 * j.val + l.val = j.val * 256 + l.val by omega)

end Whole

/-- Two arrays agree when they agree at every pair of coordinates. -/
theorem ext_ix2 {n k : ℕ} {α : Type} {f g : (⟨2, ![n, k]⟩ : Shape).Idx → α}
    (h : ∀ (r : Fin n) (c : Fin k), f (Idealize.ShloMosaic.ix2 r c) = g (Idealize.ShloMosaic.ix2 r c)) : f = g := by
  funext y
  have e : y = Idealize.ShloMosaic.ix2 (y 0) (y 1) := by
    funext a
    fin_cases a <;> rfl
  rw [e]
  exact h _ _

/-! ## The decay rates' powers -/

/-- A positive base to a real power is the exponential of the power times the base's logarithm. -/
theorem pow_eq_exp {b : ℝ} (hb : 0 < b) (t : ℝ) : Ideal.pow (b : EReal) (t : EReal) = Ideal.exp ((t : EReal) * Ideal.log (b : EReal)) := by
  have hl : Ideal.log (b : EReal) = ((Real.log b : ℝ) : EReal) := if_neg (not_le.mpr hb)
  rw [hl, ← EReal.coe_mul]
  change ((Real.rpow b t : ℝ) : EReal) = ((Real.exp (t * Real.log b) : ℝ) : EReal)
  congr 1
  rw [Real.rpow_eq_pow, Real.rpow_def_of_pos hb, mul_comm]

/-- The first decay rate is a positive real. -/
theorem beta1_pos : ∃ b : ℝ, 0 < b ∧ Ideal.ofBits FTy.f32 1063675494#32 = (b : EReal) :=
  ⟨15099494 / 16777216, by norm_num, by simp [Ideal.ofBits, Ideal.ieee, -EReal.coe_mul]; norm_num⟩

/-- The second decay rate is a positive real. -/
theorem beta2_pos : ∃ b : ℝ, 0 < b ∧ Ideal.ofBits FTy.f32 1065336439#32 = (b : EReal) :=
  ⟨16760439 / 16777216, by norm_num, by simp [Ideal.ofBits, Ideal.ieee, -EReal.coe_mul]; norm_num⟩

/-- One minus a decay rate's power, written with the power itself. -/
theorem bcS_pow {beta : BitVec 32} (h : ∃ b : ℝ, 0 < b ∧ Ideal.ofBits FTy.f32 beta = (b : EReal)) (w : BitVec 32) :
    bcS w beta = 1 - Ideal.pow (Ideal.ofBits FTy.f32 beta) ((w.toInt : ℝ) : EReal) := by
  obtain ⟨b, hb, e⟩ := h
  unfold bcS
  rw [e, pow_eq_exp hb]
  rfl

end Cert.KernelIdeal.Hand
-- ==== Proof.IBlk.lean ====
module

public import proofs.«01_k».proof.Proof.IVal
public import proofs.«01_k».proof.Proof.Spec
public import Idealize.ShloMosaic.Lib.Pipeline.ValueKit.Point

@[expose] public section

set_option maxRecDepth 16384
set_option maxHeartbeats 400000

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-! ## The kernel's input blocks in terms of its arguments -/

/-- The window of the activations at grid point `t`. -/
theorem block1 (t : Fin cfg0.N) (y : S6144x1536.Idx) :
    (iblk m c 1 t : S6144x1536.Idx → EReal) y = at3 (α := EReal) (m ((c.tc : Thread nD τ).loc main_arg0)) ((y 0).val / 3072) ((y 0).val % 3072) ((y 1).val) := by
  have e : ∀ t : Fin cfg0.N, win0_1.index t = ![0, 0] := (by decide +kernel : ∀ t : Fin grid0.N, _)
  have e0 : (((cfg0.win 1).blk t).view.emb y 0).val = (y 0).val := by
    blk_simp [e t]
  have e1 : (((cfg0.win 1).blk t).view.emb y 1).val = (y 1).val := by
    blk_simp [e t]
  blk_simp [iblk, V, e t]
  entry_read
  pointwise
  refine (at3_eq (α := EReal) _ _ ?_ ?_ ?_).symm
  · exact congrArg (fun k => k / 3072) e0.symm
  · exact congrArg (fun k => k % 3072) e0.symm
  · exact e1.symm

/-- The window of the activations' scales at grid point `t`. -/
theorem block2 (t : Fin cfg0.N) (y : S6144x12.Idx) :
    (iblk m c 2 t : S6144x12.Idx → EReal) y = at3 (α := EReal) (m ((c.tc : Thread nD τ).loc main_arg1)) ((y 0).val / 3072) ((y 0).val % 3072) ((y 1).val) := by
  have e : ∀ t : Fin cfg0.N, win0_2.index t = ![0, 0] := (by decide +kernel : ∀ t : Fin grid0.N, _)
  have e0 : (((cfg0.win 2).blk t).view.emb y 0).val = (y 0).val := by
    blk_simp [e t]
  have e1 : (((cfg0.win 2).blk t).view.emb y 1).val = (y 1).val := by
    blk_simp [e t]
  blk_simp [iblk, V, e t]
  entry_read
  pointwise
  refine (at3_eq (α := EReal) _ _ ?_ ?_ ?_).symm
  · exact congrArg (fun k => k / 3072) e0.symm
  · exact congrArg (fun k => k % 3072) e0.symm
  · exact e1.symm

/-- The window of the gradients at grid point `t`. -/
theorem block3 (t : Fin cfg0.N) (y : S6144x256.Idx) :
    (iblk m c 3 t : S6144x256.Idx → EReal) y = at3 (α := EReal) (m ((c.tc : Thread nD τ).loc main_arg2)) ((y 0).val / 3072) ((y 0).val % 3072) (256 * t.val + (y 1).val) := by
  have e : ∀ t : Fin cfg0.N, win0_3.index t = ![0, t.val] := (by decide +kernel : ∀ t : Fin grid0.N, _)
  have e0 : (((cfg0.win 3).blk t).view.emb y 0).val = (y 0).val := by
    blk_simp [e t]
  have e1 : (((cfg0.win 3).blk t).view.emb y 1).val = 256 * t.val + (y 1).val := by
    blk_simp [e t]
    omega
  blk_simp [iblk, V, e t]
  entry_read
  pointwise
  refine (at3_eq (α := EReal) _ _ ?_ ?_ ?_).symm
  · exact congrArg (fun k => k / 3072) e0.symm
  · exact congrArg (fun k => k % 3072) e0.symm
  · exact e1.symm

/-- The window of the gradients' scales at grid point `t`. -/
theorem block4 (t : Fin cfg0.N) (y : S6144x32.Idx) :
    (iblk m c 4 t : S6144x32.Idx → EReal) y = at3 (α := EReal) (m ((c.tc : Thread nD τ).loc main_arg3)) ((y 0).val / 3072) ((y 0).val % 3072) ((y 1).val) := by
  have e : ∀ t : Fin cfg0.N, win0_4.index t = ![0, 0] := (by decide +kernel : ∀ t : Fin grid0.N, _)
  have e0 : (((cfg0.win 4).blk t).view.emb y 0).val = (y 0).val := by
    blk_simp [e t]
  have e1 : (((cfg0.win 4).blk t).view.emb y 1).val = (y 1).val := by
    blk_simp [e t]
  blk_simp [iblk, V, e t]
  entry_read
  pointwise
  refine (at3_eq (α := EReal) _ _ ?_ ?_ ?_).symm
  · exact congrArg (fun k => k / 3072) e0.symm
  · exact congrArg (fun k => k % 3072) e0.symm
  · exact e1.symm

/-- The window of the weights at grid point `t`. -/
theorem block5 (t : Fin cfg0.N) (y : S1536x256.Idx) :
    (iblk m c 5 t : S1536x256.Idx → EReal) y = at2 (α := EReal) (m ((c.tc : Thread nD τ).loc main_arg4)) (y 0).val (256 * t.val + (y 1).val) := by
  have e : ∀ t : Fin cfg0.N, win0_5.index t = ![0, t.val] := (by decide +kernel : ∀ t : Fin grid0.N, _)
  refine Eq.trans ?_ (at2_eq (α := EReal) (m ((c.tc : Thread nD τ).loc main_arg4)) (((cfg0.win 5).blk t).view.emb y) ?_ ?_).symm
  · blk_ext! [iblk, V, e t]
  · blk_simp [e t]
  · blk_simp [e t]
    omega
/-- The window of the first moment's codes at grid point `t`. -/
theorem block6 (t : Fin cfg0.N) (y : S1536x256.Idx) :
    (iblk m c 6 t : S1536x256.Idx → BitVec 8) y = at2 (α := BitVec 8) (m ((c.tc : Thread nD τ).loc main_arg5)) (y 0).val (256 * t.val + (y 1).val) := by
  have e : ∀ t : Fin cfg0.N, win0_6.index t = ![0, t.val] := (by decide +kernel : ∀ t : Fin grid0.N, _)
  refine Eq.trans ?_ (at2_eq (α := BitVec 8) (m ((c.tc : Thread nD τ).loc main_arg5)) (((cfg0.win 6).blk t).view.emb y) ?_ ?_).symm
  · blk_ext! [iblk, V, e t]
  · blk_simp [e t]
  · blk_simp [e t]
    omega
/-- The window of the first moment's scales at grid point `t`. -/
theorem block7 (t : Fin cfg0.N) (y : S1536x32.Idx) :
    (iblk m c 7 t : S1536x32.Idx → EReal) y = at2 (α := EReal) (m ((c.tc : Thread nD τ).loc main_arg6)) (y 0).val ((y 1).val) := by
  have e : ∀ t : Fin cfg0.N, win0_7.index t = ![0, 0] := (by decide +kernel : ∀ t : Fin grid0.N, _)
  refine Eq.trans ?_ (at2_eq (α := EReal) (m ((c.tc : Thread nD τ).loc main_arg6)) (((cfg0.win 7).blk t).view.emb y) ?_ ?_).symm
  · blk_ext! [iblk, V, e t]
  · blk_simp [e t]
  · blk_simp [e t]

/-- The window of the codes of the second moment's root at grid point `t`. -/
theorem block8 (t : Fin cfg0.N) (y : S1536x256.Idx) :
    (iblk m c 8 t : S1536x256.Idx → BitVec 8) y = at2 (α := BitVec 8) (m ((c.tc : Thread nD τ).loc main_arg7)) (y 0).val (256 * t.val + (y 1).val) := by
  have e : ∀ t : Fin cfg0.N, win0_8.index t = ![0, t.val] := (by decide +kernel : ∀ t : Fin grid0.N, _)
  refine Eq.trans ?_ (at2_eq (α := BitVec 8) (m ((c.tc : Thread nD τ).loc main_arg7)) (((cfg0.win 8).blk t).view.emb y) ?_ ?_).symm
  · blk_ext! [iblk, V, e t]
  · blk_simp [e t]
  · blk_simp [e t]
    omega
/-- The window of the scales of the second moment's root at grid point `t`. -/
theorem block9 (t : Fin cfg0.N) (y : S1536x32.Idx) :
    (iblk m c 9 t : S1536x32.Idx → EReal) y = at2 (α := EReal) (m ((c.tc : Thread nD τ).loc main_arg8)) (y 0).val ((y 1).val) := by
  have e : ∀ t : Fin cfg0.N, win0_9.index t = ![0, 0] := (by decide +kernel : ∀ t : Fin grid0.N, _)
  refine Eq.trans ?_ (at2_eq (α := EReal) (m ((c.tc : Thread nD τ).loc main_arg8)) (((cfg0.win 9).blk t).view.emb y) ?_ ?_).symm
  · blk_ext! [iblk, V, e t]
  · blk_simp [e t]
  · blk_simp [e t]

/-- The one entry of argument 9: the step number. -/
def stepK : BitVec 32 := (m ((c.tc : Thread nD τ).loc main_arg9) : (⟨0, ![]⟩ : Shape).Idx → BitVec 32) Idealize.ShloMosaic.ix0

/-- The window of the step number. -/
theorem block0 (t : Fin cfg0.N) (z : S1x1.Idx) : (iblk m c 0 t : S1x1.Idx → BitVec 32) z = stepK m c := by
  blk_simp [iblk, V]
  entry_read
  pointwise
  rfl

end Cert.KernelIdeal.Hand

end
-- ==== Proof.ITile.lean ====
module

public import proofs.«01_k».proof.Proof.IRunP
public import proofs.«01_k».proof.Proof.ILane
public import proofs.«01_k».proof.Proof.Spec

@[expose] public section

set_option maxRecDepth 16384
set_option maxHeartbeats 400000

noncomputable section

namespace Cert.KernelIdeal.Hand

open Cert.KernelIdeal Cert.KernelIdeal.Gen
open Idealize.ShloMosaic

/-! ## A grid point's tile of columns in terms of the whole arrays -/

/-- A matrix known at its indices is known at its numbers. -/
theorem at2_of {n k : ℕ} {α : Type} [Nonempty α] {X : (⟨2, ![n, k]⟩ : Shape).Idx → α} {f : ℕ → ℕ → α} (h : ∀ y, X y = f (y 0).val (y 1).val)
    {i j : ℕ} (hi : i < n) (hj : j < k) : at2 X i j = f i j :=
  (at2_eq X (Idealize.ShloMosaic.ix2 ⟨i, hi⟩ ⟨j, hj⟩) rfl rfl).trans (h _)

variable {A0 : (⟨3, ![2, 3072, 1536]⟩ : Shape).Idx → EReal} {A1 : (⟨3, ![2, 3072, 12]⟩ : Shape).Idx → EReal}
  {A2 : (⟨3, ![2, 3072, 4096]⟩ : Shape).Idx → EReal} {A3 : (⟨3, ![2, 3072, 32]⟩ : Shape).Idx → EReal}
  {A4 : (⟨2, ![1536, 4096]⟩ : Shape).Idx → EReal}
  {A5 : (⟨2, ![1536, 4096]⟩ : Shape).Idx → BitVec 8} {A6 : (⟨2, ![1536, 32]⟩ : Shape).Idx → EReal}
  {A7 : (⟨2, ![1536, 4096]⟩ : Shape).Idx → BitVec 8} {A8 : (⟨2, ![1536, 32]⟩ : Shape).Idx → EReal} {w : BitVec 32}
  {t : ℕ} (ht : t < 16)

section Grad

variable {x1 : S6144x1536.Idx → EReal} {x2 : S6144x12.Idx → EReal} {x3 : S6144x256.Idx → EReal} {x4 : S6144x32.Idx → EReal}
  (h1 : ∀ y, x1 y = at3 A0 ((y 0).val / 3072) ((y 0).val % 3072) (y 1).val)
  (h2 : ∀ y, x2 y = at3 A1 ((y 0).val / 3072) ((y 0).val % 3072) (y 1).val)
  (h3 : ∀ y, x3 y = at3 A2 ((y 0).val / 3072) ((y 0).val % 3072) (256 * t + (y 1).val))
  (h4 : ∀ y, x4 y = at3 A3 ((y 0).val / 3072) ((y 0).val % 3072) (y 1).val)

include ht h1 h2 h3 h4 in
/-- The tile's gradient is the whole gradient at the tile's columns. -/
theorem tile_g (y : S1536x256.Idx) :
    GT (BitVec.ofNat 32 t) x1 x2 x3 x4 y = gF A0 A1 A2 A3 (y 0).val (256 * t + (y 1).val) := by
  have hr : (y 0).val < 1536 := (y 0).isLt
  have hc : (y 1).val < 256 := (y 1).isLt
  unfold GT
  rw [zero_add, ← gF_blocks]
  refine Fin.sum_fin_congr fun j => ?_
  unfold chunk
  refine Fin.sum_fin_congr fun l => ?_
  have hj : j.val < 24 := j.isLt
  have hl : l.val < 256 := l.isLt
  have hi : 256 * j.val + l.val < 6144 := by omega
  have hr2 : (y 0).val / 128 < 12 := by omega
  have hb : (y 1).val / 128 < 2 := by omega
  have hk : 2 * t + (y 1).val / 128 < 32 := by omega
  have e1 : at3 (α := EReal) (XT x1 x2) j.val (y 0).val l.val
      = at2 (α := EReal) x1 (256 * j.val + l.val) (y 0).val * at2 (α := EReal) x2 (256 * j.val + l.val) ((y 0).val / 128) :=
    at3_eq (α := EReal) (XT x1 x2) (Idealize.ShloMosaic.ix3 j ⟨(y 0).val, hr⟩ l) rfl rfl rfl
  have e2 : at2 (α := EReal) (DYB (BitVec.ofNat 32 t) x3 x4) (256 * j.val + l.val) (y 1).val
      = at2 (α := EReal) x3 (256 * j.val + l.val) (y 1).val * padAt x4 (256 * j.val + l.val) (laneOf (blk (BitVec.ofNat 32 t) ((y 1).val / 128))) :=
    at2_eq (α := EReal) (DYB (BitVec.ofNat 32 t) x3 x4) (Idealize.ShloMosaic.ix2 ⟨256 * j.val + l.val, hi⟩ ⟨(y 1).val, hc⟩) rfl rfl
  have e3 : padAt x4 (256 * j.val + l.val) (2 * t + (y 1).val / 128) = at2 (α := EReal) x4 (256 * j.val + l.val) (2 * t + (y 1).val / 128) := if_pos hk
  rw [e1, e2, lane_eq ht hb, e3]
  have f1 := at2_of (α := EReal) (f := fun i k => at3 (α := EReal) A0 (i / 3072) (i % 3072) k) h1 hi hr
  have f2 := at2_of (α := EReal) (f := fun i k => at3 (α := EReal) A1 (i / 3072) (i % 3072) k) h2 hi hr2
  have f3 := at2_of (α := EReal) (f := fun i k => at3 (α := EReal) A2 (i / 3072) (i % 3072) (256 * t + k)) h3 hi hc
  have f4 := at2_of (α := EReal) (f := fun i k => at3 (α := EReal) A3 (i / 3072) (i % 3072) k) h4 hi hk
  rw [f1, f2, f3, f4]
  unfold termF
  have ec : (256 * t + (y 1).val) / 128 = 2 * t + (y 1).val / 128 := by omega
  rw [ec]

end Grad

section Step

variable {x5 : S1536x256.Idx → EReal} {x6 : S1536x256.Idx → BitVec 8} {x7 : S1536x32.Idx → EReal} {x8 : S1536x256.Idx → BitVec 8} {x9 : S1536x32.Idx → EReal}
  {G : S1536x256.Idx → EReal}
  (hG : ∀ y, G y = gF A0 A1 A2 A3 (y 0).val (256 * t + (y 1).val))
  (h5 : ∀ y, x5 y = at2 A4 (y 0).val (256 * t + (y 1).val))
  (h6 : ∀ y, x6 y = at2 A5 (y 0).val (256 * t + (y 1).val)) (h7 : ∀ y, x7 y = at2 A6 (y 0).val (y 1).val)
  (h8 : ∀ y, x8 y = at2 A7 (y 0).val (256 * t + (y 1).val)) (h9 : ∀ y, x9 y = at2 A8 (y 0).val (y 1).val)

include ht hG h6 h7 in
/-- The tile's first moment is the whole one at the tile's columns. -/
theorem tile_m {r c : ℕ} (hr : r < 1536) (hc : c < 256) :
    mT (BitVec.ofNat 32 t) x6 x7 G r c = mF A0 A1 A2 A3 A5 A6 r (256 * t + c) := by
  have hb : c / 128 < 2 := by omega
  have hk : 2 * t + c / 128 < 32 := by omega
  have ec : (256 * t + c) / 128 = 2 * t + c / 128 := by omega
  have e3 : padAt x7 r (2 * t + c / 128) = at2 (α := EReal) x7 r (2 * t + c / 128) := if_pos hk
  have f1 := at2_of (f := fun i k => at2 A5 i (256 * t + k)) h6 hr hc
  have f2 := at2_of (α := EReal) (f := fun i k => at2 (α := EReal) A6 i k) h7 hr hk
  have f3 := at2_of (α := EReal) (f := fun i k => gF A0 A1 A2 A3 i (256 * t + k)) hG hr hc
  unfold mT mF
  rw [lane_eq ht hb, e3, f1, f2, f3, ec]

include ht hG h8 h9 in
/-- The tile's second moment is the whole one at the tile's columns. -/
theorem tile_v {r c : ℕ} (hr : r < 1536) (hc : c < 256) :
    vT (BitVec.ofNat 32 t) x8 x9 G r c = vF A0 A1 A2 A3 A7 A8 r (256 * t + c) := by
  have hb : c / 128 < 2 := by omega
  have hk : 2 * t + c / 128 < 32 := by omega
  have ec : (256 * t + c) / 128 = 2 * t + c / 128 := by omega
  have e3 : padAt x9 r (2 * t + c / 128) = at2 (α := EReal) x9 r (2 * t + c / 128) := if_pos hk
  have f1 := at2_of (f := fun i k => at2 A7 i (256 * t + k)) h8 hr hc
  have f2 := at2_of (α := EReal) (f := fun i k => at2 (α := EReal) A8 i k) h9 hr hk
  have f3 := at2_of (α := EReal) (f := fun i k => gF A0 A1 A2 A3 i (256 * t + k)) hG hr hc
  unfold vT vF
  rw [lane_eq ht hb, e3, f1, f2, f3, ec]

include ht hG h6 h7 h8 h9 in
/-- The tile's updates are the whole array's at the tile's columns. -/
theorem tile_u {r c : ℕ} (hr : r < 1536) (hc : c < 256) :
    uT (BitVec.ofNat 32 t) w x6 x7 x8 x9 G r c = uF A0 A1 A2 A3 A5 A6 A7 A8 w r (256 * t + c) := by
  unfold uT uF
  rw [tile_m ht hG h6 h7 hr hc, tile_v ht hG h8 h9 hr hc]

include ht hG h5 h6 h7 h8 h9 in
/-- The tile's weights are the whole array's at the tile's columns. -/
theorem tile_w {r c : ℕ} (hr : r < 1536) (hc : c < 256) :
    wT (BitVec.ofNat 32 t) w x5 x6 x7 x8 x9 G r c = wF A0 A1 A2 A3 A4 A5 A6 A7 A8 w r (256 * t + c) := by
  have f1 := at2_of (α := EReal) (f := fun i k => at2 (α := EReal) A4 i (256 * t + k)) h5 hr hc
  unfold wT wF
  rw [f1, tile_u ht hG h6 h7 h8 h9 hr hc]

end Step

section Codes

variable {f F : ℕ → ℕ → EReal} (hf : ∀ {r c : ℕ}, r < 1536 → c < 256 → f r c = F r (256 * t + c))

include hf in
/-- A tile's scales are those of the whole array's blocks. -/
theorem tile_sc {r b : ℕ} (hr : r < 1536) (hb : b < 2) : scT f r b = scT F r (2 * t + b) := by
  unfold scT
  refine congrArg scaleS (funext fun x => ?_)
  have hx : x.val < 128 := x.isLt
  have hc : 128 * b + x.val < 256 := by omega
  exact (hf hr hc).trans (congrArg (F r) (show 256 * t + (128 * b + x.val) = 128 * (2 * t + b) + x.val by omega))

include hf in
/-- A tile's codes are the whole array's at the tile's columns. -/
theorem tile_cd {r c : ℕ} (hr : r < 1536) (hc : c < 256) : cdT f r c = cdT F r (256 * t + c) := by
  have hb : c / 128 < 2 := by omega
  have ec : (256 * t + c) / 128 = 2 * t + c / 128 := by omega
  unfold cdT
  rw [hf hr hc, tile_sc hf hr hb, ec]

include hf in
/-- The roots of a tile are the whole array's at the tile's columns. -/
theorem tile_rt {r c : ℕ} (hr : r < 1536) (hc : c < 256) : rtT f r c = rtT F r (256 * t + c) :=
  congrArg Ideal.sqrt (hf hr hc)

end Codes

end Cert.KernelIdeal.Hand

end
-- ==== Proof.IOut.lean ====
module

public import proofs.«01_k».proof.Proof.IBlk
public import proofs.«01_k».proof.Proof.ITile
public import Idealize.ShloMosaic.Lib.Pipeline.ArrRel
public import Idealize.ShloMosaic.Lib.Pipeline.ValueKit.Point

@[expose] public section

set_option maxRecDepth 16384
set_option maxHeartbeats 400000

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (ρ : Dev nD → PrngReg) (c : Dev nD)

/-! ## A grid point's tile, by the arguments -/

/-- The grid coordinate of a point, as a word. -/
theorem a0_eq (t : Fin cfg0.N) : a0 t = BitVec.ofNat 32 t.val := congrArg (BitVec.ofNat 32) (coord0 t)

/-- There are sixteen grid points. -/
theorem pt_lt (t : Fin cfg0.N) : t.val < 16 := t.isLt

/-- A point's gradient. -/
theorem pG_eq (t : Fin cfg0.N) (y : S1536x256.Idx) : pG m c t y = gF (m ((c.tc : Thread nD τ).loc main_arg0)) (m ((c.tc : Thread nD τ).loc main_arg1)) (m ((c.tc : Thread nD τ).loc main_arg2)) (m ((c.tc : Thread nD τ).loc main_arg3)) (y 0).val (256 * t.val + (y 1).val) := by
  unfold pG
  rw [a0_eq]
  exact tile_g (pt_lt t) (block1 m c t) (block2 m c t) (block3 m c t) (block4 m c t) y

/-- A point's first moment. -/
theorem pM_eq (t : Fin cfg0.N) {r k : ℕ} (hr : r < 1536) (hk : k < 256) : pM m c t r k = mF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) r (256 * t.val + k) := by
  unfold pM
  rw [a0_eq]
  exact tile_m (pt_lt t) (pG_eq m c t) (block6 m c t) (block7 m c t) hr hk

/-- The root of a point's second moment. -/
theorem pV_eq (t : Fin cfg0.N) {r k : ℕ} (hr : r < 1536) (hk : k < 256) : pV m c t r k = rtT (vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8))) r (256 * t.val + k) := by
  unfold pV
  rw [a0_eq]
  have hv : ∀ {r k : ℕ}, r < 1536 → k < 256 → vT (BitVec.ofNat 32 t.val) (iblk m c 8 t) (iblk m c 9 t) (pG m c t) r k = vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) r (256 * t.val + k) :=
    fun hr hk => tile_v (pt_lt t) (pG_eq m c t) (block8 m c t) (block9 m c t) hr hk
  exact tile_rt (t := t.val) (f := vT (BitVec.ofNat 32 t.val) (iblk m c 8 t) (iblk m c 9 t) (pG m c t)) (F := vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8))) hv hr hk

/-- A point's tile of the new weights. -/
theorem leaf10 (t : Fin cfg0.N) {X : S1536x256.Idx → EReal} (h : Rl m c 10 t X) (y : S1536x256.Idx) :
    X y = wF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (stepK m c) (y 0).val (256 * t.val + (y 1).val) := by
  refine (congrFun (h : X = _) y).trans ?_
  have hs : stepOf (iblk m c 0 t) = stepK m c := block0 m c t _
  have e := tile_w (w := stepK m c) (pt_lt t) (pG_eq m c t) (block5 m c t) (block6 m c t) (block7 m c t) (block8 m c t) (block9 m c t) (y 0).isLt (y 1).isLt
  rw [← a0_eq, ← hs] at e
  exact e

/-- A point's tile of the updates. -/
theorem leaf11 (t : Fin cfg0.N) {X : S1536x256.Idx → EReal} (h : Rl m c 11 t X) (y : S1536x256.Idx) :
    X y = uF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (stepK m c) (y 0).val (256 * t.val + (y 1).val) := by
  refine (congrFun (h : X = _) y).trans ?_
  have hs : stepOf (iblk m c 0 t) = stepK m c := block0 m c t _
  have e := tile_u (w := stepK m c) (pt_lt t) (pG_eq m c t) (block6 m c t) (block7 m c t) (block8 m c t) (block9 m c t) (y 0).isLt (y 1).isLt
  rw [← a0_eq, ← hs] at e
  exact e

/-- A point's tile of the first moment's codes. -/
theorem leaf12 (t : Fin cfg0.N) {X : S1536x256.Idx → BitVec 8} (h : Rl m c 12 t X) (y : S1536x256.Idx) :
    X y = cdT (mF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))) (y 0).val (256 * t.val + (y 1).val) := by
  refine (congrFun (h : X = _) y).trans ?_
  exact tile_cd (t := t.val) (f := pM m c t) (F := (mF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)))) (fun hr hk => pM_eq m c t hr hk) (y 0).isLt (y 1).isLt

/-- A point's tile of the codes of the second moment's root. -/
theorem leaf14 (t : Fin cfg0.N) {X : S1536x256.Idx → BitVec 8} (h : Rl m c 14 t X) (y : S1536x256.Idx) :
    X y = cdT (rtT (vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)))) (y 0).val (256 * t.val + (y 1).val) := by
  refine (congrFun (h : X = _) y).trans ?_
  exact tile_cd (t := t.val) (f := pV m c t) (F := (rtT (vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8))))) (fun hr hk => pV_eq m c t hr hk) (y 0).isLt (y 1).isLt

/-- The first moment's scales after the last point. -/
theorem leaf13 {X : S1536x32.Idx → EReal} (h : Rl m c 13 (ptOf 15) X) (y : S1536x32.Idx) :
    X y = oMS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) y := by
  have h1 : (y 1).val < 32 := (y 1).isLt
  have h0 : (y 0).val < 1536 := (y 0).isLt
  have hq : (ptOf ((y 1).val / 2)).val = (y 1).val / 2 := Nat.mod_eq_of_lt (by omega)
  have hb : (y 1).val % 2 < 2 := Nat.mod_lt _ (by decide)
  refine (h y (by show (y 1).val < 2 * (15 % 16 + 1); omega)).trans ?_
  refine (tile_sc (t := (ptOf ((y 1).val / 2)).val) (f := pM m c (ptOf ((y 1).val / 2))) (F := (mF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)))) (fun hr hk => pM_eq m c (ptOf ((y 1).val / 2)) hr hk) h0 hb).trans ?_
  exact congrArg (scT (mF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))) (y 0).val) (by rw [hq]; omega)

/-- The scales of the second moment's root after the last point. -/
theorem leaf15 {X : S1536x32.Idx → EReal} (h : Rl m c 15 (ptOf 15) X) (y : S1536x32.Idx) :
    X y = oSS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) y := by
  have h1 : (y 1).val < 32 := (y 1).isLt
  have h0 : (y 0).val < 1536 := (y 0).isLt
  have hq : (ptOf ((y 1).val / 2)).val = (y 1).val / 2 := Nat.mod_eq_of_lt (by omega)
  have hb : (y 1).val % 2 < 2 := Nat.mod_lt _ (by decide)
  refine (h y (by show (y 1).val < 2 * (15 % 16 + 1); omega)).trans ?_
  refine (tile_sc (t := (ptOf ((y 1).val / 2)).val) (f := pV m c (ptOf ((y 1).val / 2))) (F := (rtT (vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8))))) (fun hr hk => pV_eq m c (ptOf ((y 1).val / 2)) hr hk) h0 hb).trans ?_
  exact congrArg (scT (rtT (vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)))) (y 0).val) (by rw [hq]; omega)

/-! ## The kernel's results -/

section Arrays

variable {after : (w : Fin cfg0.W) → Fin cfg0.N → (cfg0.win w).block.Idx → Elt Ideal (cfg0.win w).elt}
  (hL : ∀ (w : Fin cfg0.W) (u : Fin cfg0.N), (cfg0.win w).flush u = true → (rdat m c).Leaves w u (after w u))

include hL in
/-- The new weights the kernel leaves. -/
theorem arr10 : (((rdat m c).withAfter after).arrAt 10 cfg0.N : S1536x4096.Idx → EReal) = oW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (stepK m c) := by
  have e : ∀ t : Fin cfg0.N, win0_10.index t = ![0, t.val] := (by decide +kernel : ∀ t : Fin grid0.N, _)
  refine Pipeline.Dat.arrAt_eq_of_covers _ 10 _ (by decide +kernel) fun t hf y => ?_
  have h := Pipeline.Dat.toRRel_leaves (fgt := forgets0) (Rl := Rl m c) (w := 10) (dats m 0 c) rfl (hL 10 t hf)
  have e0 : (((cfg0.win 10).blk t).view.emb y 0).val = (y 0).val := by
    blk_simp [e t]
  have e1 : (((cfg0.win 10).blk t).view.emb y 1).val = 256 * t.val + (y 1).val := by
    blk_simp [e t]
    omega
  refine (leaf10 m c t h y).trans ?_
  exact (congrArg₂ (wF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (stepK m c)) e0 e1).symm

include hL in
/-- The updates the kernel leaves. -/
theorem arr11 : (((rdat m c).withAfter after).arrAt 11 cfg0.N : S1536x4096.Idx → EReal) = oU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (stepK m c) := by
  have e : ∀ t : Fin cfg0.N, win0_11.index t = ![0, t.val] := (by decide +kernel : ∀ t : Fin grid0.N, _)
  refine Pipeline.Dat.arrAt_eq_of_covers _ 11 _ (by decide +kernel) fun t hf y => ?_
  have h := Pipeline.Dat.toRRel_leaves (fgt := forgets0) (Rl := Rl m c) (w := 11) (dats m 0 c) rfl (hL 11 t hf)
  have e0 : (((cfg0.win 11).blk t).view.emb y 0).val = (y 0).val := by
    blk_simp [e t]
  have e1 : (((cfg0.win 11).blk t).view.emb y 1).val = 256 * t.val + (y 1).val := by
    blk_simp [e t]
    omega
  refine (leaf11 m c t h y).trans ?_
  exact (congrArg₂ (uF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (stepK m c)) e0 e1).symm

include hL in
/-- The first moment's codes the kernel leaves. -/
theorem arr12 : (((rdat m c).withAfter after).arrAt 12 cfg0.N : S1536x4096.Idx → BitVec 8) = oM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := by
  have e : ∀ t : Fin cfg0.N, win0_12.index t = ![0, t.val] := (by decide +kernel : ∀ t : Fin grid0.N, _)
  refine Pipeline.Dat.arrAt_eq_of_covers _ 12 _ (by decide +kernel) fun t hf y => ?_
  have h := Pipeline.Dat.toRRel_leaves (fgt := forgets0) (Rl := Rl m c) (w := 12) (dats m 0 c) rfl (hL 12 t hf)
  have e0 : (((cfg0.win 12).blk t).view.emb y 0).val = (y 0).val := by
    blk_simp [e t]
  have e1 : (((cfg0.win 12).blk t).view.emb y 1).val = 256 * t.val + (y 1).val := by
    blk_simp [e t]
    omega
  refine (leaf12 m c t h y).trans ?_
  exact (congrArg₂ (cdT (mF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)))) e0 e1).symm

include hL in
/-- The first moment's scales the kernel leaves. -/
theorem arr13 : (((rdat m c).withAfter after).arrAt 13 cfg0.N : S1536x32.Idx → EReal) = oMS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := by
  refine Pipeline.Dat.arrAt_eq_of_after_last _ 13 (ptOf 15) (by decide +kernel) _ fun j => ?_
  have h := Pipeline.Dat.toRRel_leaves (fgt := forgets0) (Rl := Rl m c) (w := 13) (dats m 0 c) rfl (hL 13 (ptOf 15) (by decide +kernel))
  exact leaf13 m c h _

include hL in
/-- The codes of the second moment's root the kernel leaves. -/
theorem arr14 : (((rdat m c).withAfter after).arrAt 14 cfg0.N : S1536x4096.Idx → BitVec 8) = oS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) := by
  have e : ∀ t : Fin cfg0.N, win0_14.index t = ![0, t.val] := (by decide +kernel : ∀ t : Fin grid0.N, _)
  refine Pipeline.Dat.arrAt_eq_of_covers _ 14 _ (by decide +kernel) fun t hf y => ?_
  have h := Pipeline.Dat.toRRel_leaves (fgt := forgets0) (Rl := Rl m c) (w := 14) (dats m 0 c) rfl (hL 14 t hf)
  have e0 : (((cfg0.win 14).blk t).view.emb y 0).val = (y 0).val := by
    blk_simp [e t]
  have e1 : (((cfg0.win 14).blk t).view.emb y 1).val = 256 * t.val + (y 1).val := by
    blk_simp [e t]
    omega
  refine (leaf14 m c t h y).trans ?_
  exact (congrArg₂ (cdT (rtT (vF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8))))) e0 e1).symm

include hL in
/-- The scales of the second moment's root the kernel leaves. -/
theorem arr15 : (((rdat m c).withAfter after).arrAt 15 cfg0.N : S1536x32.Idx → EReal) = oSS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) := by
  refine Pipeline.Dat.arrAt_eq_of_after_last _ 15 (ptOf 15) (by decide +kernel) _ fun j => ?_
  have h := Pipeline.Dat.toRRel_leaves (fgt := forgets0) (Rl := Rl m c) (w := 15) (dats m 0 c) rfl (hL 15 (ptOf 15) (by decide +kernel))
  exact leaf15 m c h _

end Arrays

/-- The kernel ends with its six results at the shared functions of its arguments. -/
theorem results : θ_run defs (onTc (τ := τ) (main (F := Ideal))) ⟨m, fun _ => 0, ρ⟩ (fun r => ∀ c : Dev nD,
      r.2.mem ((c.tc : Thread nD τ).loc main_v5_0) = oW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (stepK m c)
      ∧ r.2.mem ((c.tc : Thread nD τ).loc main_v5_1) = oU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (stepK m c)
      ∧ r.2.mem ((c.tc : Thread nD τ).loc main_v5_2) = oM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v5_3) = oMS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v5_4) = oS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8))
      ∧ r.2.mem ((c.tc : Thread nD τ).loc main_v5_5) = oSS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8))) := by
  refine (θ_run defs _ _).mono (fun r h c => ?_) (run_main m ρ)
  obtain ⟨after, hL, hA⟩ := Pipeline.RDat.FramePost.exists_exact h c
  exact ⟨(hA 10).trans (arr10 m c hL), (hA 11).trans (arr11 m c hL), (hA 12).trans (arr12 m c hL), (hA 13).trans (arr13 m c hL), (hA 14).trans (arr14 m c hL), (hA 15).trans (arr15 m c hL)⟩

end Cert.KernelIdeal.Hand

end
-- ==== Proof.RPay.lean ====
module

public import proofs.«01_k».proof.Proof.Spec
public import proofs.«01_k».proof.Proof.Gen.ReferenceIdeal.Frame

@[expose] public section

set_option maxRecDepth 16384
set_option maxHeartbeats 400000

noncomputable section

namespace Cert.ReferenceIdeal.Hand

open Cert.ReferenceIdeal Cert.ReferenceIdeal.Gen
open Idealize.ShloMosaic
open Cert.KernelIdeal.Hand (at2 at3 at2_eq gF mF vF uF wF oW oU oM oMS oS oSS mS vS uS bcS deqS scaleS codeS amaxS scT cdT rtT ext_ix2 gF_batches bcS_pow beta1_pos beta2_pos)

/-! ## The reference's intermediate values at an entry -/

/-- The scales as the reference picks them, from the greatest magnitudes `A`. -/
theorem pick_scale (A : FVec Ideal S1536x32 .f32) (z : S1536x32.Idx) :
    (select (cmpf .oeq A (broadcast S1536x32 (Scalar.ofBits .f32 0x00000000#32 : Ideal .f32))) (broadcast S1536x32 (Scalar.ofBits .f32 0x3F800000#32 : Ideal .f32))
        (divf A (broadcast S1536x32 (Scalar.ofBits .f32 0x42FE0000#32 : Ideal .f32))) : S1536x32.Idx → EReal) z
      = if A z = (0 : EReal) then (1 : EReal) else Ideal.div (A z) (Ideal.ofBits FTy.f32 1123942400#32) := by
  pointwise

/-- The codes as the reference makes them, from the values `X` in blocks and the scales `Q`. -/
theorem make_codes (X : FVec Ideal S1536x32x128 .f32) (Q : FVec Ideal S1536x32 .f32) (r : Fin 1536) (c : Fin 4096) (hc : c.val / 128 < 32) (hx : c.val % 128 < 128) :
    (shapeCast S1536x4096 (fptosi 8 (minimumf (broadcast S1536x32x128 (Scalar.ofBits .f32 0x42FE0000#32 : Ideal .f32)) (maximumf (broadcast S1536x32x128 (Scalar.ofBits .f32 0xC2FE0000#32 : Ideal .f32))
        (roundeven (divf X (broadcastTo S1536x32x128 (shapeCast S1536x32x1 Q shapeCasts_S1536x32_S1536x32x1) broadcasts_S1536x32x1_S1536x32x128)))))) shapeCasts_S1536x32x128_S1536x4096 : IVec S1536x4096 8) (Idealize.ShloMosaic.ix2 r c)
      = codeS (X (Idealize.ShloMosaic.ix3 r ⟨c.val / 128, hc⟩ ⟨c.val % 128, hx⟩)) (Q (Idealize.ShloMosaic.ix2 r ⟨c.val / 128, hc⟩)) := by
  unfold codeS
  pointwise

/-- The small constant factor of the gradient in the first moment. -/
abbrev tenth : Ideal .f32 := Scalar.ofBits .f32 0x3DCCCCCD#32

section Vals

variable (A0 : FVec Ideal S2x3072x1536 .fp8e4m3) (A1 : FVec Ideal S2x3072x12 .f32) (A2 : FVec Ideal S2x3072x4096 .fp8e5m2) (A3 : FVec Ideal S2x3072x32 .f32)
  (A4 : FVec Ideal S1536x4096 .bf16) (A5 : IVec S1536x4096 8) (A6 : FVec Ideal S1536x32 .f32) (A7 : IVec S1536x4096 8) (A8 : FVec Ideal S1536x32 .f32) (w : BitVec 32)

/-- The reference's gradient. -/
theorem ref_g (r : Fin 1536) (c : Fin 4096) :
    (k0_pay6 (F := Ideal) A0 A1 A2 A3 : S1536x4096.Idx → EReal) (Idealize.ShloMosaic.ix2 r c) = gF A0 A1 A2 A3 r.val c.val := by
  have hr : r.val / 128 < 12 := by have := r.isLt; omega
  have hc : c.val / 128 < 32 := by have := c.isLt; omega
  refine Eq.trans ?_ (gF_batches A0 A1 A2 A3 r c hr hc)
  pointwise [k0_pay6]

/-- The reference's old moment, widened: the root of the second. -/
theorem ref_s (r : Fin 1536) (c : Fin 4096) :
    (k0_pay7 (F := Ideal) A7 A8 : S1536x4096.Idx → EReal) (Idealize.ShloMosaic.ix2 r c) = deqS (at2 A7 r.val c.val) (at2 A8 r.val (c.val / 128)) := by
  have hc : c.val / 128 < 32 := by have := c.isLt; omega
  have e1 : at2 A7 r.val c.val = A7 (Idealize.ShloMosaic.ix2 r c) := at2_eq _ _ rfl rfl
  have e2 : at2 (α := EReal) A8 r.val (c.val / 128) = A8 (Idealize.ShloMosaic.ix2 r ⟨c.val / 128, hc⟩) := at2_eq (α := EReal) _ _ rfl rfl
  rw [e1, e2]
  unfold deqS
  pointwise [k0_pay7]

/-- The reference's old first moment, widened and decayed. -/
theorem ref_m (r : Fin 1536) (c : Fin 4096) :
    (k0_pay8 (F := Ideal) A5 A6 : S1536x4096.Idx → EReal) (Idealize.ShloMosaic.ix2 r c)
      = Ideal.ofBits FTy.f32 1063675494#32 * deqS (at2 A5 r.val c.val) (at2 A6 r.val (c.val / 128)) := by
  have hc : c.val / 128 < 32 := by have := c.isLt; omega
  have e1 : at2 A5 r.val c.val = A5 (Idealize.ShloMosaic.ix2 r c) := at2_eq _ _ rfl rfl
  have e2 : at2 (α := EReal) A6 r.val (c.val / 128) = A6 (Idealize.ShloMosaic.ix2 r ⟨c.val / 128, hc⟩) := at2_eq (α := EReal) _ _ rfl rfl
  rw [e1, e2]
  unfold deqS
  pointwise [k0_pay8]

/-- The reference's new first moment. -/
theorem ref_mn (r : Fin 1536) (c : Fin 4096) :
    (k0_pay9 (F := Ideal) (k0_pay6 A0 A1 A2 A3) (k0_pay8 A5 A6) tenth : S1536x4096.Idx → EReal) (Idealize.ShloMosaic.ix2 r c)
      = mF A0 A1 A2 A3 A5 A6 r.val c.val := by
  have e : ∀ (g m : FVec Ideal S1536x4096 .f32), (k0_pay9 (F := Ideal) g m tenth : S1536x4096.Idx → EReal) (Idealize.ShloMosaic.ix2 r c)
      = m (Idealize.ShloMosaic.ix2 r c) + Ideal.ofBits FTy.f32 1036831949#32 * g (Idealize.ShloMosaic.ix2 r c) := fun g m => by
    pointwise [k0_pay9]
  refine (e _ _).trans ?_
  unfold mF mS
  exact congrArg₂ (fun a b : EReal => a + Ideal.ofBits FTy.f32 1036831949#32 * b) (ref_m A5 A6 r c) (ref_g A0 A1 A2 A3 r c)

/-- The reference's new second moment. -/
theorem ref_vn (r : Fin 1536) (c : Fin 4096) :
    (k0_pay10 (F := Ideal) (k0_pay6 A0 A1 A2 A3) (k0_pay7 A7 A8) : S1536x4096.Idx → EReal) (Idealize.ShloMosaic.ix2 r c)
      = vF A0 A1 A2 A3 A7 A8 r.val c.val := by
  have e : ∀ (g s : FVec Ideal S1536x4096 .f32), (k0_pay10 (F := Ideal) g s : S1536x4096.Idx → EReal) (Idealize.ShloMosaic.ix2 r c)
      = vS (s (Idealize.ShloMosaic.ix2 r c)) (g (Idealize.ShloMosaic.ix2 r c)) := fun g s => by
    unfold vS
    pointwise [k0_pay10]
  refine (e _ _).trans ?_
  unfold vF
  exact congrArg₂ vS (ref_s A7 A8 r c) (ref_g A0 A1 A2 A3 r c)

/-- The reference's update. -/
theorem ref_u (r : Fin 1536) (c : Fin 4096) :
    (k0_pay11 (F := Ideal) (k0_pay6 A0 A1 A2 A3) (k0_pay7 A7 A8) (k0_pay8 A5 A6) tenth w : S1536x4096.Idx → EReal) (Idealize.ShloMosaic.ix2 r c)
      = uF A0 A1 A2 A3 A5 A6 A7 A8 w r.val c.val := by
  have e : ∀ (g s m : FVec Ideal S1536x4096 .f32), (k0_pay11 (F := Ideal) g s m tenth w : S1536x4096.Idx → EReal) (Idealize.ShloMosaic.ix2 r c)
      = uS ((k0_pay9 (F := Ideal) g m tenth : S1536x4096.Idx → EReal) (Idealize.ShloMosaic.ix2 r c))
          ((k0_pay10 (F := Ideal) g s : S1536x4096.Idx → EReal) (Idealize.ShloMosaic.ix2 r c))
          (1 - Ideal.pow (Ideal.ofBits FTy.f32 1063675494#32) ((w.toInt : ℝ) : EReal))
          (1 - Ideal.pow (Ideal.ofBits FTy.f32 1065336439#32) ((w.toInt : ℝ) : EReal)) := fun g s m => by
    unfold uS
    pointwise [k0_pay11]
    rfl
  refine (e _ _ _).trans ?_
  rw [← bcS_pow beta1_pos, ← bcS_pow beta2_pos]
  unfold uF
  exact congrArg₂ (fun a b : EReal => uS a b (bcS w 1063675494#32) (bcS w 1065336439#32)) (ref_mn A0 A1 A2 A3 A5 A6 r c) (ref_vn A0 A1 A2 A3 A7 A8 r c)

/-- The reference's new weight. -/
theorem ref_w (r : Fin 1536) (c : Fin 4096) :
    (k0_pay12 (F := Ideal) (k0_pay6 A0 A1 A2 A3) (k0_pay7 A7 A8) (k0_pay8 A5 A6) tenth w A4 : S1536x4096.Idx → EReal) (Idealize.ShloMosaic.ix2 r c)
      = wF A0 A1 A2 A3 A4 A5 A6 A7 A8 w r.val c.val := by
  have e : ∀ (g s m : FVec Ideal S1536x4096 .f32), (k0_pay12 (F := Ideal) g s m tenth w A4 : S1536x4096.Idx → EReal) (Idealize.ShloMosaic.ix2 r c)
      = A4 (Idealize.ShloMosaic.ix2 r c) + (k0_pay11 (F := Ideal) g s m tenth w : S1536x4096.Idx → EReal) (Idealize.ShloMosaic.ix2 r c) := fun g s m => by
    pointwise [k0_pay12]
  refine (e _ _ _).trans ?_
  have e1 : at2 (α := EReal) A4 r.val c.val = A4 (Idealize.ShloMosaic.ix2 r c) := at2_eq (α := EReal) _ _ rfl rfl
  unfold wF
  rw [e1]
  exact congrArg (fun a : EReal => A4 (Idealize.ShloMosaic.ix2 r c) + a) (ref_u A0 A1 A2 A3 A5 A6 A7 A8 w r c)

/-- The reference's scales of the first moment, from its new value `f`. -/
theorem ref_ms (g m : FVec Ideal S1536x4096 .f32) (f : ℕ → ℕ → EReal)
    (hf : ∀ (r : Fin 1536) (c : Fin 4096), (k0_pay9 (F := Ideal) g m tenth : S1536x4096.Idx → EReal) (Idealize.ShloMosaic.ix2 r c) = f r.val c.val)
    (r : Fin 1536) (b : Fin 32) :
    (k0_pay1 (F := Ideal) (k0_pay15 g m tenth) (k0_pay16 g m tenth) : S1536x32.Idx → EReal) (Idealize.ShloMosaic.ix2 r b) = scT f r.val b.val := by
  have e3 : ∀ x : Fin 128, (k0_pay13 (F := Ideal) g m tenth : S1536x32x128.Idx → EReal) (Idealize.ShloMosaic.ix3 r b x) = f r.val (128 * b.val + x.val) := fun x => by
    have hx : b.val * 128 + x.val < 4096 := by have := b.isLt; have := x.isLt; omega
    have e : (k0_pay13 (F := Ideal) g m tenth : S1536x32x128.Idx → EReal) (Idealize.ShloMosaic.ix3 r b x)
        = (k0_pay9 (F := Ideal) g m tenth : S1536x4096.Idx → EReal) (Idealize.ShloMosaic.ix2 r ⟨b.val * 128 + x.val, hx⟩) := by
      pointwise [k0_pay13]
    refine e.trans ((hf r _).trans ?_)
    exact congrArg (f r.val) (show b.val * 128 + x.val = 128 * b.val + x.val by omega)
  have e2 : (k0_pay14 (F := Ideal) g m tenth : S1536x32.Idx → EReal) (Idealize.ShloMosaic.ix2 r b) = amaxS fun x => f r.val (128 * b.val + x.val) := by
    have e : (k0_pay14 (F := Ideal) g m tenth : S1536x32.Idx → EReal) (Idealize.ShloMosaic.ix2 r b)
        = amaxS fun x => (k0_pay13 (F := Ideal) g m tenth : S1536x32x128.Idx → EReal) (Idealize.ShloMosaic.ix3 r b x) := by
      unfold amaxS
      pointwise [k0_pay14]
    exact e.trans (congrArg amaxS (funext e3))
  have e1 : (k0_pay1 (F := Ideal) (k0_pay15 g m tenth) (k0_pay16 g m tenth) : S1536x32.Idx → EReal) (Idealize.ShloMosaic.ix2 r b)
      = (fun a : EReal => if a = 0 then 1 else Ideal.div a (Ideal.ofBits FTy.f32 1123942400#32)) ((k0_pay14 (F := Ideal) g m tenth : S1536x32.Idx → EReal) (Idealize.ShloMosaic.ix2 r b)) := by
    exact pick_scale (k0_pay14 (F := Ideal) g m tenth) (Idealize.ShloMosaic.ix2 r b)
  rw [e1, e2]
  rfl

/-- The reference's codes of the first moment, from its new value `f`. -/
theorem ref_mc (g m : FVec Ideal S1536x4096 .f32) (f : ℕ → ℕ → EReal)
    (hf : ∀ (r : Fin 1536) (c : Fin 4096), (k0_pay9 (F := Ideal) g m tenth : S1536x4096.Idx → EReal) (Idealize.ShloMosaic.ix2 r c) = f r.val c.val)
    (r : Fin 1536) (c : Fin 4096) :
    k0_pay2 (F := Ideal) (k0_pay13 g m tenth) (k0_pay15 g m tenth) (k0_pay16 g m tenth) (Idealize.ShloMosaic.ix2 r c) = cdT f r.val c.val := by
  have hc : c.val / 128 < 32 := by have := c.isLt; omega
  have hx : c.val % 128 < 128 := Nat.mod_lt _ (by decide)
  have e3 : (k0_pay13 (F := Ideal) g m tenth : S1536x32x128.Idx → EReal) (Idealize.ShloMosaic.ix3 r ⟨c.val / 128, hc⟩ ⟨c.val % 128, hx⟩) = f r.val c.val := by
    have e : (k0_pay13 (F := Ideal) g m tenth : S1536x32x128.Idx → EReal) (Idealize.ShloMosaic.ix3 r ⟨c.val / 128, hc⟩ ⟨c.val % 128, hx⟩)
        = (k0_pay9 (F := Ideal) g m tenth : S1536x4096.Idx → EReal) (Idealize.ShloMosaic.ix2 r c) := by
      pointwise [k0_pay13]
    exact e.trans (hf r c)
  have e : ∀ (v : FVec Ideal S1536x32x128 .f32) (p : IVec S1536x32 1) (q : FVec Ideal S1536x32 .f32),
      k0_pay2 (F := Ideal) v p q (Idealize.ShloMosaic.ix2 r c)
        = codeS (v (Idealize.ShloMosaic.ix3 r ⟨c.val / 128, hc⟩ ⟨c.val % 128, hx⟩)) ((k0_pay1 (F := Ideal) p q : S1536x32.Idx → EReal) (Idealize.ShloMosaic.ix2 r ⟨c.val / 128, hc⟩)) := fun v p q => by
    exact make_codes v (k0_pay1 (F := Ideal) p q) r c hc hx
  refine (e _ _ _).trans ?_
  unfold cdT
  exact congrArg₂ codeS e3 (ref_ms g m f hf r ⟨c.val / 128, hc⟩)

/-- The reference's scales of the second moment's root, from the second moment `f`. -/
theorem ref_ss (v : FVec Ideal S1536x4096 .f32) (f : ℕ → ℕ → EReal)
    (hf : ∀ (r : Fin 1536) (c : Fin 4096), (v : S1536x4096.Idx → EReal) (Idealize.ShloMosaic.ix2 r c) = f r.val c.val)
    (r : Fin 1536) (b : Fin 32) :
    (k0_pay4 (F := Ideal) v : S1536x32.Idx → EReal) (Idealize.ShloMosaic.ix2 r b) = scT (rtT f) r.val b.val := by
  have e3 : ∀ x : Fin 128, (k0_pay3 (F := Ideal) v : S1536x32x128.Idx → EReal) (Idealize.ShloMosaic.ix3 r b x) = rtT f r.val (128 * b.val + x.val) := fun x => by
    have hx : b.val * 128 + x.val < 4096 := by have := b.isLt; have := x.isLt; omega
    have e : (k0_pay3 (F := Ideal) v : S1536x32x128.Idx → EReal) (Idealize.ShloMosaic.ix3 r b x)
        = Ideal.sqrt (v (Idealize.ShloMosaic.ix2 r ⟨b.val * 128 + x.val, hx⟩)) := by
      pointwise [k0_pay3]
    refine e.trans ((congrArg Ideal.sqrt (hf r _)).trans ?_)
    exact congrArg (fun k => Ideal.sqrt (f r.val k)) (show b.val * 128 + x.val = 128 * b.val + x.val by omega)
  have e2 : (multiReduction .maximumf [2] S1536x32 (absf (k0_pay3 (F := Ideal) v)) 0xFF800000#32 reduces_S1536x32x128_S1536x32 (.inl rfl) rfl : S1536x32.Idx → EReal) (Idealize.ShloMosaic.ix2 r b)
      = amaxS fun x => (k0_pay3 (F := Ideal) v : S1536x32x128.Idx → EReal) (Idealize.ShloMosaic.ix3 r b x) := by
    unfold amaxS
    pointwise
  have e1 : (k0_pay4 (F := Ideal) v : S1536x32.Idx → EReal) (Idealize.ShloMosaic.ix2 r b)
      = (fun a : EReal => if a = 0 then 1 else Ideal.div a (Ideal.ofBits FTy.f32 1123942400#32))
          ((multiReduction .maximumf [2] S1536x32 (absf (k0_pay3 (F := Ideal) v)) 0xFF800000#32 reduces_S1536x32x128_S1536x32 (.inl rfl) rfl : S1536x32.Idx → EReal) (Idealize.ShloMosaic.ix2 r b)) := by
    exact pick_scale (multiReduction .maximumf [2] S1536x32 (absf (k0_pay3 (F := Ideal) v)) 0xFF800000#32 reduces_S1536x32x128_S1536x32 (.inl rfl) rfl) (Idealize.ShloMosaic.ix2 r b)
  rw [e1, e2]
  exact congrArg scaleS (funext e3)

/-- The reference's codes of the second moment's root, from the second moment `f`. -/
theorem ref_sc (v : FVec Ideal S1536x4096 .f32) (f : ℕ → ℕ → EReal)
    (hf : ∀ (r : Fin 1536) (c : Fin 4096), (v : S1536x4096.Idx → EReal) (Idealize.ShloMosaic.ix2 r c) = f r.val c.val)
    (r : Fin 1536) (c : Fin 4096) :
    k0_pay5 (F := Ideal) v (Idealize.ShloMosaic.ix2 r c) = cdT (rtT f) r.val c.val := by
  have hc : c.val / 128 < 32 := by have := c.isLt; omega
  have hx : c.val % 128 < 128 := Nat.mod_lt _ (by decide)
  have e3 : (k0_pay3 (F := Ideal) v : S1536x32x128.Idx → EReal) (Idealize.ShloMosaic.ix3 r ⟨c.val / 128, hc⟩ ⟨c.val % 128, hx⟩) = rtT f r.val c.val := by
    have e : (k0_pay3 (F := Ideal) v : S1536x32x128.Idx → EReal) (Idealize.ShloMosaic.ix3 r ⟨c.val / 128, hc⟩ ⟨c.val % 128, hx⟩)
        = Ideal.sqrt (v (Idealize.ShloMosaic.ix2 r c)) := by
      pointwise [k0_pay3]
    exact e.trans (congrArg Ideal.sqrt (hf r c))
  have e : k0_pay5 (F := Ideal) v (Idealize.ShloMosaic.ix2 r c)
      = codeS ((k0_pay3 (F := Ideal) v : S1536x32x128.Idx → EReal) (Idealize.ShloMosaic.ix3 r ⟨c.val / 128, hc⟩ ⟨c.val % 128, hx⟩))
          ((k0_pay4 (F := Ideal) v : S1536x32.Idx → EReal) (Idealize.ShloMosaic.ix2 r ⟨c.val / 128, hc⟩)) := by
    exact make_codes (k0_pay3 (F := Ideal) v) (k0_pay4 (F := Ideal) v) r c hc hx
  refine e.trans ?_
  unfold cdT
  exact congrArg₂ codeS e3 (ref_ss v f hf r ⟨c.val / 128, hc⟩)

end Vals

end Cert.ReferenceIdeal.Hand
-- ==== Proof.RVal.lean ====
module

public import proofs.«01_k».proof.Proof.RPay
public import Idealize.ShloMosaic.Lib.Pipeline.ValueKit.Point
public import Idealize.ShloMosaic.Lib.Pipeline.ReadBack

@[expose] public section

set_option maxRecDepth 16384
set_option maxHeartbeats 400000

noncomputable section

namespace Cert.ReferenceIdeal.Hand

open Cert.ReferenceIdeal Cert.ReferenceIdeal.Gen
open Idealize.ShloMosaic Idealize.ShloMosaic.TcCoe
open Cert.KernelIdeal.Hand (oW oU oM oMS oS oSS ext_ix2)

variable (m : (ℓ : Loc nD τ sig) → Buf (Elt Ideal) ℓ) (ρ : Dev nD → PrngReg)

/-! ## The reference's windows hold its arguments whole -/

/-- The one point of the reference's grid. -/
abbrev pt0 : Fin cfg0.N := ⟨0, by decide⟩

/-- Window 0 holds argument 0. -/
theorem whole0 (c : Dev nD) : (iblk m c 0 pt0 : S2x3072x1536.Idx → EReal) = m ((c.tc : Thread nD τ).loc main_arg0) := by
  have e : win0_0.index pt0 = ![0, 0, 0] := by decide +kernel
  funext y
  blk_ext! [iblk, V, e]

/-- Window 1 holds argument 1. -/
theorem whole1 (c : Dev nD) : (iblk m c 1 pt0 : S2x3072x12.Idx → EReal) = m ((c.tc : Thread nD τ).loc main_arg1) := by
  have e : win0_1.index pt0 = ![0, 0, 0] := by decide +kernel
  funext y
  blk_ext! [iblk, V, e]

/-- Window 2 holds argument 2. -/
theorem whole2 (c : Dev nD) : (iblk m c 2 pt0 : S2x3072x4096.Idx → EReal) = m ((c.tc : Thread nD τ).loc main_arg2) := by
  have e : win0_2.index pt0 = ![0, 0, 0] := by decide +kernel
  funext y
  blk_ext! [iblk, V, e]

/-- Window 3 holds argument 3. -/
theorem whole3 (c : Dev nD) : (iblk m c 3 pt0 : S2x3072x32.Idx → EReal) = m ((c.tc : Thread nD τ).loc main_arg3) := by
  have e : win0_3.index pt0 = ![0, 0, 0] := by decide +kernel
  funext y
  blk_ext! [iblk, V, e]

/-- Window 4 holds argument 4. -/
theorem whole4 (c : Dev nD) : (iblk m c 4 pt0 : S1536x4096.Idx → EReal) = m ((c.tc : Thread nD τ).loc main_arg4) := by
  have e : win0_4.index pt0 = ![0, 0] := by decide +kernel
  funext y
  blk_ext! [iblk, V, e]

/-- Window 5 holds argument 5. -/
theorem whole5 (c : Dev nD) : (iblk m c 5 pt0 : S1536x4096.Idx → BitVec 8) = m ((c.tc : Thread nD τ).loc main_arg5) := by
  have e : win0_5.index pt0 = ![0, 0] := by decide +kernel
  funext y
  blk_ext! [iblk, V, e]

/-- Window 6 holds argument 6. -/
theorem whole6 (c : Dev nD) : (iblk m c 6 pt0 : S1536x32.Idx → EReal) = m ((c.tc : Thread nD τ).loc main_arg6) := by
  have e : win0_6.index pt0 = ![0, 0] := by decide +kernel
  funext y
  blk_ext! [iblk, V, e]

/-- Window 7 holds argument 7. -/
theorem whole7 (c : Dev nD) : (iblk m c 7 pt0 : S1536x4096.Idx → BitVec 8) = m ((c.tc : Thread nD τ).loc main_arg7) := by
  have e : win0_7.index pt0 = ![0, 0] := by decide +kernel
  funext y
  blk_ext! [iblk, V, e]

/-- Window 8 holds argument 8. -/
theorem whole8 (c : Dev nD) : (iblk m c 8 pt0 : S1536x32.Idx → EReal) = m ((c.tc : Thread nD τ).loc main_arg8) := by
  have e : win0_8.index pt0 = ![0, 0] := by decide +kernel
  funext y
  blk_ext! [iblk, V, e]

/-- The one entry of argument 9: the step number. -/
def stepR (c : Dev nD) : BitVec 32 := (m ((c.tc : Thread nD τ).loc main_arg9) : (⟨0, ![]⟩ : Shape).Idx → BitVec 32) Idealize.ShloMosaic.ix0

/-- Window 9 holds the step number. -/
theorem whole9 (c : Dev nD) (z : S1x1.Idx) : (iblk m c 9 pt0 : S1x1.Idx → BitVec 32) z = stepR m c := by
  blk_simp [iblk, V]
  entry_read
  pointwise
  rfl

/-! ## The reference's results -/

/-- What the reference's body leaves for the new weights. -/
theorem left10 (c : Dev nD) : ((dats m 0 c).after 10 pt0 : S1536x4096.Idx → EReal) = oW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (stepR m c) := by
  rw [after0_10]
  frame_out
  simp only [read_unread_whole, whole0, whole1, whole2, whole3, whole4, whole5, whole6, whole7, whole8, whole9]
  refine ext_ix2 (fun r b => ?_)
  exact ref_w _ _ _ _ _ _ _ _ _ _ r b

/-- The new weights the reference computes. -/
theorem arr10 (c : Dev nD) : ((dats m 0 c).arrAt 10 cfg0.N : S1536x4096.Idx → EReal) = oW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (stepR m c) :=
  ((dats m 0 c).arrAt_eq_of_after_last 10 pt0 (by decide +kernel) ((dats m 0 c).after 10 pt0) fun j => rfl).trans (left10 m c)

/-- What the reference's body leaves for the updates. -/
theorem left11 (c : Dev nD) : ((dats m 0 c).after 11 pt0 : S1536x4096.Idx → EReal) = oU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (stepR m c) := by
  rw [after0_11]
  frame_out
  simp only [read_unread_whole, whole0, whole1, whole2, whole3, whole5, whole6, whole7, whole8, whole9]
  refine ext_ix2 (fun r b => ?_)
  exact ref_u _ _ _ _ _ _ _ _ _ r b

/-- The updates the reference computes. -/
theorem arr11 (c : Dev nD) : ((dats m 0 c).arrAt 11 cfg0.N : S1536x4096.Idx → EReal) = oU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (stepR m c) :=
  ((dats m 0 c).arrAt_eq_of_after_last 11 pt0 (by decide +kernel) ((dats m 0 c).after 11 pt0) fun j => rfl).trans (left11 m c)

/-- What the reference's body leaves for the first moment's codes. -/
theorem left12 (c : Dev nD) : ((dats m 0 c).after 12 pt0 : S1536x4096.Idx → BitVec 8) = oM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := by
  rw [after0_12]
  frame_out
  simp only [read_unread_whole, whole0, whole1, whole2, whole3, whole5, whole6]
  refine ext_ix2 (fun r b => ?_)
  exact ref_mc _ _ _ (fun r c => ref_mn _ _ _ _ _ _ r c) r b

/-- The first moment's codes the reference computes. -/
theorem arr12 (c : Dev nD) : ((dats m 0 c).arrAt 12 cfg0.N : S1536x4096.Idx → BitVec 8) = oM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) :=
  ((dats m 0 c).arrAt_eq_of_after_last 12 pt0 (by decide +kernel) ((dats m 0 c).after 12 pt0) fun j => rfl).trans (left12 m c)

/-- What the reference's body leaves for the first moment's scales. -/
theorem left13 (c : Dev nD) : ((dats m 0 c).after 13 pt0 : S1536x32.Idx → EReal) = oMS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := by
  rw [after0_13]
  frame_out
  simp only [read_unread_whole, whole0, whole1, whole2, whole3, whole5, whole6]
  refine ext_ix2 (fun r b => ?_)
  exact ref_ms _ _ _ (fun r c => ref_mn _ _ _ _ _ _ r c) r b

/-- The first moment's scales the reference computes. -/
theorem arr13 (c : Dev nD) : ((dats m 0 c).arrAt 13 cfg0.N : S1536x32.Idx → EReal) = oMS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) :=
  ((dats m 0 c).arrAt_eq_of_after_last 13 pt0 (by decide +kernel) ((dats m 0 c).after 13 pt0) fun j => rfl).trans (left13 m c)

/-- What the reference's body leaves for the codes of the second moment's root. -/
theorem left14 (c : Dev nD) : ((dats m 0 c).after 14 pt0 : S1536x4096.Idx → BitVec 8) = oS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) := by
  rw [after0_14]
  frame_out
  simp only [read_unread_whole, whole0, whole1, whole2, whole3, whole7, whole8]
  refine ext_ix2 (fun r b => ?_)
  exact ref_sc _ _ (fun r c => ref_vn _ _ _ _ _ _ r c) r b

/-- The codes of the second moment's root the reference computes. -/
theorem arr14 (c : Dev nD) : ((dats m 0 c).arrAt 14 cfg0.N : S1536x4096.Idx → BitVec 8) = oS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) :=
  ((dats m 0 c).arrAt_eq_of_after_last 14 pt0 (by decide +kernel) ((dats m 0 c).after 14 pt0) fun j => rfl).trans (left14 m c)

/-- What the reference's body leaves for the scales of the second moment's root. -/
theorem left15 (c : Dev nD) : ((dats m 0 c).after 15 pt0 : S1536x32.Idx → EReal) = oSS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) := by
  rw [after0_15]
  frame_out
  simp only [read_unread_whole, whole0, whole1, whole2, whole3, whole7, whole8]
  refine ext_ix2 (fun r b => ?_)
  exact ref_ss _ _ (fun r c => ref_vn _ _ _ _ _ _ r c) r b

/-- The scales of the second moment's root the reference computes. -/
theorem arr15 (c : Dev nD) : ((dats m 0 c).arrAt 15 cfg0.N : S1536x32.Idx → EReal) = oSS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) :=
  ((dats m 0 c).arrAt_eq_of_after_last 15 pt0 (by decide +kernel) ((dats m 0 c).after 15 pt0) fun j => rfl).trans (left15 m c)

/-- The reference ends with its six results at the shared functions of its arguments. -/
theorem results : θ_run defs (onTc (τ := τ) (main (F := Ideal))) ⟨m, fun _ => 0, ρ⟩ (fun r => ∀ c : Dev nD,
      r.2.mem ((c.tc : Thread nD τ).loc main_v1_0) = oW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (stepR m c)
      ∧ r.2.mem ((c.tc : Thread nD τ).loc main_v1_1) = oU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (stepR m c)
      ∧ r.2.mem ((c.tc : Thread nD τ).loc main_v1_2) = oM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v1_3) = oMS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v1_4) = oS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8))
      ∧ r.2.mem ((c.tc : Thread nD τ).loc main_v1_5) = oSS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8))) :=
  (θ_run defs _ _).mono (fun _ h c => ⟨(Pipeline.FramePost.out_eq h c 10).trans (arr10 m c), (Pipeline.FramePost.out_eq h c 11).trans (arr11 m c), (Pipeline.FramePost.out_eq h c 12).trans (arr12 m c), (Pipeline.FramePost.out_eq h c 13).trans (arr13 m c), (Pipeline.FramePost.out_eq h c 14).trans (arr14 m c), (Pipeline.FramePost.out_eq h c 15).trans (arr15 m c)⟩) (run_main m ρ)

end Cert.ReferenceIdeal.Hand

end
-- ==== Proof.Algebraic.lean ====
module

public import proofs.«01_k».proof.Defs
public import proofs.«01_k».proof.Proof.IOut
public import proofs.«01_k».proof.Proof.RVal

@[expose] public section

set_option maxRecDepth 16384
set_option maxHeartbeats 400000

noncomputable section

namespace Cert.Hand

open Idealize.ShloMosaic Idealize.ShloMosaic.TcCoe Idealize.SL.Sem
open Cert.KernelIdeal.Hand (oW oU oM oMS oS oSS stepK)
open Cert.ReferenceIdeal.Hand (stepR)

/-! ## Equal arguments give equal results -/

/-- The new weights depend on the arguments alone. -/
theorem sameW {A0 A0' : (⟨3, ![2, 3072, 1536]⟩ : Shape).Idx → EReal} {A1 A1' : (⟨3, ![2, 3072, 12]⟩ : Shape).Idx → EReal} {A2 A2' : (⟨3, ![2, 3072, 4096]⟩ : Shape).Idx → EReal} {A3 A3' : (⟨3, ![2, 3072, 32]⟩ : Shape).Idx → EReal} {A4 A4' : (⟨2, ![1536, 4096]⟩ : Shape).Idx → EReal} {A5 A5' : (⟨2, ![1536, 4096]⟩ : Shape).Idx → BitVec 8} {A6 A6' : (⟨2, ![1536, 32]⟩ : Shape).Idx → EReal} {A7 A7' : (⟨2, ![1536, 4096]⟩ : Shape).Idx → BitVec 8} {A8 A8' : (⟨2, ![1536, 32]⟩ : Shape).Idx → EReal} {w w' : BitVec 32}
    (h0 : A0' = A0) (h1 : A1' = A1) (h2 : A2' = A2) (h3 : A3' = A3) (h4 : A4' = A4) (h5 : A5' = A5) (h6 : A6' = A6) (h7 : A7' = A7) (h8 : A8' = A8) (hw : w' = w) : oW A0' A1' A2' A3' A4' A5' A6' A7' A8' w' = oW A0 A1 A2 A3 A4 A5 A6 A7 A8 w := by
  subst h0 h1 h2 h3 h4 h5 h6 h7 h8 hw
  rfl

/-- The updates depend on the arguments alone. -/
theorem sameU {A0 A0' : (⟨3, ![2, 3072, 1536]⟩ : Shape).Idx → EReal} {A1 A1' : (⟨3, ![2, 3072, 12]⟩ : Shape).Idx → EReal} {A2 A2' : (⟨3, ![2, 3072, 4096]⟩ : Shape).Idx → EReal} {A3 A3' : (⟨3, ![2, 3072, 32]⟩ : Shape).Idx → EReal} {A5 A5' : (⟨2, ![1536, 4096]⟩ : Shape).Idx → BitVec 8} {A6 A6' : (⟨2, ![1536, 32]⟩ : Shape).Idx → EReal} {A7 A7' : (⟨2, ![1536, 4096]⟩ : Shape).Idx → BitVec 8} {A8 A8' : (⟨2, ![1536, 32]⟩ : Shape).Idx → EReal} {w w' : BitVec 32}
    (h0 : A0' = A0) (h1 : A1' = A1) (h2 : A2' = A2) (h3 : A3' = A3) (h5 : A5' = A5) (h6 : A6' = A6) (h7 : A7' = A7) (h8 : A8' = A8) (hw : w' = w) : oU A0' A1' A2' A3' A5' A6' A7' A8' w' = oU A0 A1 A2 A3 A5 A6 A7 A8 w := by
  subst h0 h1 h2 h3 h5 h6 h7 h8 hw
  rfl

/-- The first moment's codes depend on the arguments alone. -/
theorem sameM {A0 A0' : (⟨3, ![2, 3072, 1536]⟩ : Shape).Idx → EReal} {A1 A1' : (⟨3, ![2, 3072, 12]⟩ : Shape).Idx → EReal} {A2 A2' : (⟨3, ![2, 3072, 4096]⟩ : Shape).Idx → EReal} {A3 A3' : (⟨3, ![2, 3072, 32]⟩ : Shape).Idx → EReal} {A5 A5' : (⟨2, ![1536, 4096]⟩ : Shape).Idx → BitVec 8} {A6 A6' : (⟨2, ![1536, 32]⟩ : Shape).Idx → EReal}
    (h0 : A0' = A0) (h1 : A1' = A1) (h2 : A2' = A2) (h3 : A3' = A3) (h5 : A5' = A5) (h6 : A6' = A6) : oM A0' A1' A2' A3' A5' A6' = oM A0 A1 A2 A3 A5 A6 := by
  subst h0 h1 h2 h3 h5 h6
  rfl

/-- The first moment's scales depend on the arguments alone. -/
theorem sameMS {A0 A0' : (⟨3, ![2, 3072, 1536]⟩ : Shape).Idx → EReal} {A1 A1' : (⟨3, ![2, 3072, 12]⟩ : Shape).Idx → EReal} {A2 A2' : (⟨3, ![2, 3072, 4096]⟩ : Shape).Idx → EReal} {A3 A3' : (⟨3, ![2, 3072, 32]⟩ : Shape).Idx → EReal} {A5 A5' : (⟨2, ![1536, 4096]⟩ : Shape).Idx → BitVec 8} {A6 A6' : (⟨2, ![1536, 32]⟩ : Shape).Idx → EReal}
    (h0 : A0' = A0) (h1 : A1' = A1) (h2 : A2' = A2) (h3 : A3' = A3) (h5 : A5' = A5) (h6 : A6' = A6) : oMS A0' A1' A2' A3' A5' A6' = oMS A0 A1 A2 A3 A5 A6 := by
  subst h0 h1 h2 h3 h5 h6
  rfl

/-- The codes of the second moment's root depend on the arguments alone. -/
theorem sameS {A0 A0' : (⟨3, ![2, 3072, 1536]⟩ : Shape).Idx → EReal} {A1 A1' : (⟨3, ![2, 3072, 12]⟩ : Shape).Idx → EReal} {A2 A2' : (⟨3, ![2, 3072, 4096]⟩ : Shape).Idx → EReal} {A3 A3' : (⟨3, ![2, 3072, 32]⟩ : Shape).Idx → EReal} {A7 A7' : (⟨2, ![1536, 4096]⟩ : Shape).Idx → BitVec 8} {A8 A8' : (⟨2, ![1536, 32]⟩ : Shape).Idx → EReal}
    (h0 : A0' = A0) (h1 : A1' = A1) (h2 : A2' = A2) (h3 : A3' = A3) (h7 : A7' = A7) (h8 : A8' = A8) : oS A0' A1' A2' A3' A7' A8' = oS A0 A1 A2 A3 A7 A8 := by
  subst h0 h1 h2 h3 h7 h8
  rfl

/-- The scales of the second moment's root depend on the arguments alone. -/
theorem sameSS {A0 A0' : (⟨3, ![2, 3072, 1536]⟩ : Shape).Idx → EReal} {A1 A1' : (⟨3, ![2, 3072, 12]⟩ : Shape).Idx → EReal} {A2 A2' : (⟨3, ![2, 3072, 4096]⟩ : Shape).Idx → EReal} {A3 A3' : (⟨3, ![2, 3072, 32]⟩ : Shape).Idx → EReal} {A7 A7' : (⟨2, ![1536, 4096]⟩ : Shape).Idx → BitVec 8} {A8 A8' : (⟨2, ![1536, 32]⟩ : Shape).Idx → EReal}
    (h0 : A0' = A0) (h1 : A1' = A1) (h2 : A2' = A2) (h3 : A3' = A3) (h7 : A7' = A7) (h8 : A8' = A8) : oSS A0' A1' A2' A3' A7' A8' = oSS A0 A1 A2 A3 A7 A8 := by
  subst h0 h1 h2 h3 h7 h8
  rfl

/-- The kernel and the reference, at exact arithmetic and from equal arguments, end with equal results in all six arrays. -/
theorem algebraic : algebraic_KernelIdeal_ReferenceIdeal (hKernelIdeal := Cert.KernelIdeal.Gen.facts) (hReferenceIdeal := Cert.ReferenceIdeal.Gen.facts) := by
  intro m g m' g' _ hm
  refine ⟨fun c => oW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (stepK m c), fun c => oU (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (stepK m c), fun c => oM (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => oMS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => oS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => oSS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run _ _ _).mono (fun r h c => ?_) (θ_run_and (Cert.KernelIdeal.Hand.results m g) (Cert.KernelIdeal.Hand.unchanged m g))
    obtain ⟨k0, k1, k2, k3, k4, k5⟩ := h.1 c
    exact ⟨k0, k1, k2, k3, k4, k5, h.2 c⟩
  · refine (θ_run _ _ _).mono (fun r h c => ?_) (θ_run_and (Cert.ReferenceIdeal.Hand.results m' g') (Cert.ReferenceIdeal.Gen.unchanged m' g'))
    obtain ⟨k0, k1, k2, k3, k4, k5⟩ := h.1 c
    obtain ⟨h0, h1, h2, h3, h4, h5, h6, h7, h8, h9⟩ := hm c
    have hw : stepR m' c = stepK m c := congrFun h9 _
    exact ⟨k0.trans (sameW h0 h1 h2 h3 h4 h5 h6 h7 h8 hw), k1.trans (sameU h0 h1 h2 h3 h5 h6 h7 h8 hw), k2.trans (sameM h0 h1 h2 h3 h5 h6), k3.trans (sameMS h0 h1 h2 h3 h5 h6), k4.trans (sameS h0 h1 h2 h3 h7 h8), k5.trans (sameSS h0 h1 h2 h3 h7 h8), h.2 c⟩

end Cert.Hand

end
-- ==== Proof.lean ====
module

public import proofs.«01_k».proof.Defs
public import proofs.«01_k».proof.Proof.KFrame
public import proofs.«01_k».proof.Proof.Algebraic

@[expose] public section

noncomputable section

namespace Cert.Proof

open Idealize.ShloMosaic Idealize.SL.Sem

/-- Everything claimed: both programs and the reference run to the end with their arguments unchanged and every counter back at zero, and at exact
    arithmetic the kernel's six results are the reference's. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, trivial, Cert.Hand.algebraic⟩

end Cert.Proof

end
